-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uniform_grid : Cert.Pre_uniform_grid.Facts),
    quiescent_Kernel (hKernel := hKernel)
    ∧ quiescent_KernelIdeal (hKernelIdeal := hKernelIdeal)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_uniform_grid (hKernelIdeal := hKernelIdeal) (hReferenceIdeal := hReferenceIdeal) (hPre_uniform_grid := hPre_uniform_grid)
-- ==== Pre_uniform_grid.lean ====
abbrev S16384x64 : Shape := ⟨2, ![16384, 64]⟩
abbrev S32 : Shape := ⟨1, ![32]⟩
abbrev S1 : Shape := ⟨1, ![1]⟩
abbrev S_ : Shape := ⟨0, ![]⟩

class Facts : Prop where
  slices_S32_S1_1 : S32.Slices ![1] S1
  shapeCasts_S1_S_ : S1.ShapeCasts S_
  slices_S32_S1_0 : S32.Slices ![0] S1
  bcast_S_S16384x64 : S_.BroadcastsInDim S16384x64 (![] : Fin 0 → Fin S16384x64.rank)
  reducesTo_S16384x64_S_d0_1 : S16384x64.ReducesTo [0, 1] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_arg1 : FVec F S32 .f32) (main_v1 : FVec F S32 .f32) (main_v6 : FVec F S_ .f32) (main_v15 : IVec S_ 1) (main_v17 : FVec F S_ .f32) (main_v19 : FVec F S_ .f32) : IVec S_ 1 :=
  let main_v20 : IVec S_ 1 := cmpf .une main_v17 main_v19
  let main_v21 : IVec S_ 1 := andi main_v15 main_v20
  let main_v22 : FVec F S1 .f32 := (extractStridedSlice S1 ![0] · slices_S32_S1_0) main_arg1
  let main_v23 : FVec F S_ .f32 := shapeCast S_ main_v22 shapeCasts_S1_S_
  let main_v24 : FVec F S32 .f32 := broadcastInDim S32 ![] bcast_S_S32 main_v6
  let main_v25 : FVec F S32 .f32 := mulf main_v1 main_v24
  let main_v26 : FVec F S32 .f32 := broadcastInDim S32 ![] bcast_S_S32 main_v23
  let main_v27 : FVec F S32 .f32 := addf main_v26 main_v25
  let main_v28 : IVec S32 1 := cmpf .oeq main_arg1 main_v27
  let main_c_2 : IVec S_ 1 := constantI S_ 1 1#1
  let main_v29 : IVec S_ 1 := (fun x v => Host.reduce IntOp.andi x v reducesTo_S32_S_d0 h_S_) main_v28 main_c_2
  let main_v30 : IVec S_ 1 := andi main_v21 main_v29
  main_v30

def fn {F : FTy → Type} [FloatOps F] (main_arg0 : FVec F S16384x64 .f32) (main_arg1 : FVec F S32 .f32) : IVec S_ 1 :=
  let main_v0 : IVec S32 32 := iotaInDim S32 32 0
  let main_v1 : FVec F S32 .f32 := sitofp .f32 main_v0
  let main_v2 : FVec F S1 .f32 := (extractStridedSlice S1 ![1] · slices_S32_S1_1) main_arg1
  let main_v3 : FVec F S_ .f32 := shapeCast S_ main_v2 shapeCasts_S1_S_
  let main_v4 : FVec F S1 .f32 := (extractStridedSlice S1 ![0] · slices_S32_S1_0) main_arg1
  let main_v5 : FVec F S_ .f32 := shapeCast S_ main_v4 shapeCasts_S1_S_
  let main_v6 : FVec F S_ .f32 := subf main_v3 main_v5
  let main_v7 : FVec F S16384x64 .f32 := Host.absf main_arg0
  let main_cst : FVec F S_ .f32 := constant S_ .f32 0x7F800000#32
  let main_v8 : FVec F S16384x64 .f32 := broadcastInDim S16384x64 ![] bcast_S_S16384x64 main_cst
  let main_v9 : IVec S16384x64 1 := cmpf .olt main_v7 main_v8
  let main_c : IVec S_ 1 := constantI S_ 1 1#1
  let main_v10 : IVec S_ 1 := (fun x v => Host.reduce IntOp.andi x v reducesTo_S16384x64_S_d0_1 h_S_) main_v9 main_c
  let main_v11 : FVec F S32 .f32 := Host.absf main_arg1
  let main_cst_0 : FVec F S_ .f32 := constant S_ .f32 0x7F800000#32
  let main_v12 : FVec F S32 .f32 := broadcastInDim S32 ![] bcast_S_S32 main_cst_0
  let main_v13 : IVec S32 1 := cmpf .olt main_v11 main_v12
  let main_c_1 : IVec S_ 1 := constantI S_ 1 1#1
  let main_v14 : IVec S_ 1 := (fun x v => Host.reduce IntOp.andi x v reducesTo_S32_S_d0 h_S_) main_v13 main_c_1
  let main_v15 : IVec S_ 1 := andi main_v10 main_v14
  let main_v16 : FVec F S1 .f32 := (extractStridedSlice S1 ![1] · slices_S32_S1_1) main_arg1
  let main_v17 : FVec F S_ .f32 := shapeCast S_ main_v16 shapeCasts_S1_S_
  let main_v18 : FVec F S1 .f32 := (extractStridedSlice S1 ![0] · slices_S32_S1_0) main_arg1
  let main_v19 : FVec F S_ .f32 := shapeCast S_ main_v18 shapeCasts_S1_S_
  fn_part1 (F := F) main_arg1 main_v1 main_v6 main_v15 main_v17 main_v19
-- ==== Kernel.lean ====
abbrev S16384x64 : Shape := ⟨2, ![16384, 64]⟩
abbrev S32 : Shape := ⟨1, ![32]⟩
abbrev S1 : Shape := ⟨1, ![1]⟩
abbrev S_ : Shape := ⟨0, ![]⟩
abbrev S16 : Shape := ⟨1, ![16]⟩
abbrev S48 : Shape := ⟨1, ![48]⟩
abbrev S1048576 : Shape := ⟨1, ![1048576]⟩
abbrev S32768 : Shape := ⟨1, ![32768]⟩

abbrev nBuf : Table → Nat
  | .hbm => 22
  | .local .scVector .vmem => 3
  | _ => 0

abbrev bufTy : (tb : Table) → Fin (nBuf tb) → BufTy
  | .hbm, ⟨0, _⟩ => ⟨S16384x64, .f32⟩
  | .hbm, ⟨1, _⟩ => ⟨S32, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S16, .f32⟩
  | .hbm, ⟨14, _⟩ => ⟨S48, .f32⟩
  | .hbm, ⟨15, _⟩ => ⟨S1048576, .f32⟩
  | .hbm, ⟨16, _⟩ => ⟨S1048576, .f32⟩
  | .hbm, ⟨17, _⟩ => ⟨S1048576, .f32⟩
  | .hbm, ⟨18, _⟩ => ⟨S1048576, .i32⟩
  | .hbm, ⟨19, _⟩ => ⟨S16384x64, .f32⟩
  | .hbm, ⟨20, _⟩ => ⟨S16384x64, .f32⟩
  | .hbm, ⟨21, _⟩ => ⟨S16384x64, .i32⟩
  | .local .scVector .vmem, ⟨0, _⟩ => ⟨S48, .f32⟩
  | .local .scVector .vmem, ⟨1, _⟩ => ⟨S32768, .f32⟩
  | .local .scVector .vmem, ⟨2, _⟩ => ⟨S32768, .i32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v12_scv : Ref sig .scVector := ⟨.hbm, 15, rfl⟩
abbrev main_v11_scv : Ref sig .scVector := ⟨.hbm, 14, rfl⟩
abbrev main_v13_0_scv : Ref sig .scVector := ⟨.hbm, 16, rfl⟩
abbrev main_v13_1_scv : Ref sig .scVector := ⟨.hbm, 17, rfl⟩
abbrev main_v13_2_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_0 : BitVec 32 := 0#32
  let c2048_i32 : BitVec 32 := 2048#32
  let v9 : BitVec 32 := Scalar.addi c0_i32_0 c2048_i32
  let c1_i32 : BitVec 32 := 1#32
  ⟨c0_i32_0, v9, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v10 : BitVec 32 := Scalar.muli arg10 c16_i32
  let v11 : Index := Scalar.indexCast v10
  ![v11.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S32 : Shape := ⟨1, ![32]⟩
abbrev S1048576x1 : Shape := ⟨2, ![1048576, 1]⟩
abbrev S1x32 : Shape := ⟨2, ![1, 32]⟩
abbrev S1048576x32 : Shape := ⟨2, ![1048576, 32]⟩
abbrev S_ : Shape := ⟨0, ![]⟩
abbrev S1048576 : Shape := ⟨1, ![1048576]⟩
abbrev S16384x64x1 : Shape := ⟨3, ![16384, 64, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S32, .f32⟩
  | .hbm, ⟨2, _⟩ => ⟨S1048576x1, .f32⟩
  | .hbm, ⟨3, _⟩ => ⟨S1x32, .f32⟩
  | .hbm, ⟨4, _⟩ => ⟨S1048576x32, .f32⟩
  | .hbm, ⟨5, _⟩ => ⟨S1048576x32, .f32⟩
  | .hbm, ⟨6, _⟩ => ⟨S1048576x32, .f32⟩
  | .hbm, ⟨7, _⟩ => ⟨S1048576x32, .f32⟩
  | .hbm, ⟨8, _⟩ => ⟨S_, .f32⟩
  | .hbm, ⟨9, _⟩ => ⟨S1048576x32, .f32⟩
  | .hbm, ⟨10, _⟩ => ⟨S1048576x32, .f32⟩
  | .hbm, ⟨11, _⟩ => ⟨S_, .f32⟩
  | .hbm, ⟨12, _⟩ => ⟨S1048576, .f32⟩
  | .hbm, ⟨13, _⟩ => ⟨S_, .f32⟩
  | .hbm, ⟨14, _⟩ => ⟨S1048576, .f32⟩
  | .hbm, ⟨15, _⟩ => ⟨S1048576, .f32⟩
  | .hbm, ⟨16, _⟩ => ⟨S1048576x1, .f32⟩
  | .hbm, ⟨17, _⟩ => ⟨S1048576x32, .f32⟩
  | .hbm, ⟨18, _⟩ => ⟨S1048576x32, .f32⟩
  | .hbm, ⟨19, _⟩ => ⟨S1048576x32, .f32⟩
  | .hbm, ⟨20, _⟩ => ⟨S_, .f32⟩
  | .hbm, ⟨21, _⟩ => ⟨S1048576, .f32⟩
  | .hbm, ⟨22, _⟩ => ⟨S1048576x1, .f32⟩
  | .hbm, ⟨23, _⟩ => ⟨S1048576x32, .f32⟩
  | .hbm, ⟨24, _⟩ => ⟨S1048576x32, .f32⟩
  | .hbm, ⟨25, _⟩ => ⟨S1x32, .f32⟩
  | .hbm, ⟨26, _⟩ => ⟨S1048576x32, .f32⟩
  | .hbm, ⟨27, _⟩ => ⟨S1048576x32, .f32⟩
  | .hbm, ⟨28, _⟩ => ⟨S_, .f32⟩
  | .hbm, ⟨29, _⟩ => ⟨S1048576, .f32⟩
  | .hbm, ⟨30, _⟩ => ⟨S16384x64, .f32⟩
  | .hbm, ⟨31, _⟩ => ⟨S1048576x32, .i32⟩
  | .hbm, ⟨32, _⟩ => ⟨S_, .f32⟩
  | .hbm, ⟨33, _⟩ => ⟨S_, .i32⟩
  | .hbm, ⟨34, _⟩ => ⟨S1048576, .f32⟩
  | .hbm, ⟨35, _⟩ => ⟨S1048576, .i32⟩
  | .hbm, ⟨36, _⟩ => ⟨S16384x64, .i32⟩
  | .hbm, ⟨37, _⟩ => ⟨S_, .i32⟩
  | .hbm, ⟨38, _⟩ => ⟨S16384x64, .i32⟩
  | .hbm, ⟨39, _⟩ => ⟨S16384x64, .i1⟩
  | .hbm, ⟨40, _⟩ => ⟨S_, .i32⟩
  | .hbm, ⟨41, _⟩ => ⟨S16384x64, .i32⟩
  | .hbm, ⟨42, _⟩ => ⟨S16384x64, .i32⟩
  | .hbm, ⟨43, _⟩ => ⟨S16384x64, .i32⟩
  | .hbm, ⟨44, _⟩ => ⟨S16384x64x1, .i32⟩
  | .hbm, ⟨45, _⟩ => ⟨S16384x64, .f32⟩
  | .hbm, ⟨46, _⟩ => ⟨S16384x64, .f32⟩
  | .hbm, ⟨47, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Scalars.lean ====
/-
  What the kernel computes of one element, as functions of the element and of the three parameters its lane holds, at any float
  instance: the index of the level it picks and the level itself. No program is mentioned.
-/
module

public import Idealize.ShloMosaic.Lib.StableHlo.Run

@[expose] public section

noncomputable section

namespace Cert.Proof.Quant

open Idealize.ShloMosaic

variable {F : FTy → Type} [FloatOps F]

/-- The element's place on the grid less a half, clipped to the grid's ends. -/
def clipped (lo inv v : F .f32) : F .f32 :=
  FloatOps.minimumf (FloatOps.maximumf (FloatOps.subf (FloatOps.mulf (FloatOps.subf v lo) inv) (FloatOps.ofBits .f32 0x3F000000#32))
    (FloatOps.ofBits .f32 0x00000000#32)) (FloatOps.ofBits .f32 0x41F80000#32)

/-- The clipped place rounded towards zero. -/
def floorWord (lo inv v : F .f32) : BitVec 32 := FloatOps.fptosi 32 (clipped lo inv v)

/-- The index picked: the clipped place rounded up. -/
def symOf (lo inv v : F .f32) : BitVec 32 :=
  Scalar.select (FloatOps.cmpf .ogt (clipped lo inv v) (FloatOps.sitofp .f32 (floorWord lo inv v)))
    (IntOp.addi (floorWord lo inv v) 1#32) (floorWord lo inv v)

/-- The level picked. -/
def featOf (lo st inv v : F .f32) : F .f32 :=
  FloatOps.addf lo (FloatOps.mulf (FloatOps.sitofp .f32 (symOf lo inv v)) st)

end Cert.Proof.Quant

end
-- ==== Proof.TileIdeal.lean ====
/-
  One vector subcore's task of the idealized kernel, run once at a symbolic place of the grid: it fetches the parameters and its
  stretch of the input, rewrites the stretch sixteen lanes at a time in a counted loop, and sends the levels out twice and
  the indices once. What it leaves is stated as the elements of ONE function of the whole input and the parameters
  (`featAt`, `symAt`), so that the launch has only to put the stretches together.
-/
module

public import proofs.«01_k».proof.Defs
public import proofs.«01_k».proof.Proof.Scalars
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ValueIdxCore
public import Idealize.ShloMosaic.Lib.ShareLeaves
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Cert.Proof.Quant

open Idealize.ShloMosaic
open Idealize.ShloMosaic.ValueIdx (ix1)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_v12
abbrev pLoc (d : Dev nD) : Loc nD τ sig := (SparseCore.T d).loc main_v11
abbrev fLoc (d : Dev nD) : Loc nD τ sig := (SparseCore.T d).loc main_v13_0
abbrev hLoc (d : Dev nD) : Loc nD τ sig := (SparseCore.T d).loc main_v13_1
abbrev yLoc (d : Dev nD) : Loc nD τ sig := (SparseCore.T d).loc main_v13_2

local notation "xV" => (Memref.whole Cert.KernelIdeal.main_v12_scv : Memref Cert.KernelIdeal.sig Kind.scVector Space.hbm Cert.KernelIdeal.S1048576 EltTy.f32)
local notation "pV" => (Memref.whole Cert.KernelIdeal.main_v11_scv : Memref Cert.KernelIdeal.sig Kind.scVector Space.hbm Cert.KernelIdeal.S48 EltTy.f32)
local notation "fV" => (Memref.whole Cert.KernelIdeal.main_v13_0_scv : Memref Cert.KernelIdeal.sig Kind.scVector Space.hbm Cert.KernelIdeal.S1048576 EltTy.f32)
local notation "hV" => (Memref.whole Cert.KernelIdeal.main_v13_1_scv : Memref Cert.KernelIdeal.sig Kind.scVector Space.hbm Cert.KernelIdeal.S1048576 EltTy.f32)
local notation "yV" => (Memref.whole Cert.KernelIdeal.main_v13_2_scv : Memref Cert.KernelIdeal.sig Kind.scVector Space.hbm Cert.KernelIdeal.S1048576 EltTy.i32)
local notation "tV" => (Memref.whole Cert.KernelIdeal.cc0_scratch0 : Memref Cert.KernelIdeal.sig Kind.scVector Space.vmem Cert.KernelIdeal.S48 EltTy.f32)
local notation "aV" => (Memref.whole Cert.KernelIdeal.cc0_scratch1 : Memref Cert.KernelIdeal.sig Kind.scVector Space.vmem Cert.KernelIdeal.S32768 EltTy.f32)
local notation "bV" => (Memref.whole Cert.KernelIdeal.cc0_scratch2 : Memref Cert.KernelIdeal.sig Kind.scVector Space.vmem Cert.KernelIdeal.S32768 EltTy.i32)

/-! ## What the call leaves, as functions of the parameters and the input -/

section Values
variable [FloatOps F]

/-- The lane's entry of one of the three parameter vectors, which begins at `o`. -/
def par (p : S48.Idx → F .f32) (o n : ℕ) (h : o + 16 ≤ 48) : F .f32 :=
  p (ix1 (⟨o + n % 16, by omega⟩ : Fin 48))

/-- The index picked for an element of value `v` at place `n`. -/
def symAt (p : S48.Idx → F .f32) (n : ℕ) (v : F .f32) : BitVec 32 :=
  symOf (par p 0 n (by omega)) (par p 32 n (by omega)) v

/-- The level picked for an element of value `v` at place `n`. -/
def featAt (p : S48.Idx → F .f32) (n : ℕ) (v : F .f32) : F .f32 :=
  featOf (par p 0 n (by omega)) (par p 16 n (by omega)) (par p 32 n (by omega)) v

/-- The indices of a whole array. -/
def symAll (p : S48.Idx → F .f32) (x : S1048576.Idx → F .f32) : S1048576.Idx → BitVec 32 := fun j => symAt p (j 0).val (x j)
/-- The levels of a whole array. -/
def featAll (p : S48.Idx → F .f32) (x : S1048576.Idx → F .f32) : S1048576.Idx → F .f32 := fun j => featAt p (j 0).val (x j)

end Values

/-! ## A task's stretches and shares -/

theorem xdiv : 32 ∣ S1048576.size 0 := ⟨32768, rfl⟩
abbrev row (i : Fin 32) : Rect S1048576 := Rect.part (s := S1048576) (a₀ := 0) xdiv i
abbrev rowSet (i : Fin 32) : Finset S1048576.Idx := (row i).set
abbrev pq (i : Fin 32) : PosShare TreeShare := ShareLeaves.leaf 5 fullShare i

abbrev xPts (d : Dev nD) (i : Fin 32) (x : Buf (Elt F) (xLoc d)) : sProp 𝕄 := xLoc d ↦[rowSet i]{fullShare} x
abbrev pPts (d : Dev nD) (i : Fin 32) (p : Buf (Elt F) (pLoc d)) : sProp 𝕄 := pLoc d ↦{pq i} p
abbrev fPts (d : Dev nD) (i : Fin 32) (f : Buf (Elt F) (fLoc d)) : sProp 𝕄 := fLoc d ↦[rowSet i]{fullShare} f
abbrev hPts (d : Dev nD) (i : Fin 32) (f : Buf (Elt F) (hLoc d)) : sProp 𝕄 := hLoc d ↦[rowSet i]{fullShare} f
abbrev yPts (d : Dev nD) (i : Fin 32) (f : Buf (Elt F) (yLoc d)) : sProp 𝕄 := yLoc d ↦[rowSet i]{fullShare} f

section Tile

variable (d : Dev nD) (L : grid0.Coords)

abbrev cV (L : grid0.Coords) : Fin τ.nSC := (L 0).castLE hcore0
abbrev jV (L : grid0.Coords) : Fin τ.nSub := (L 1).castLE hsub0
/-- The task's number: twice the subcore's, plus the core's. -/
def wid (L : grid0.Coords) : Fin 32 :=
  ⟨2 * (L 1).val + (L 0).val, by
    have h0 : (L 0).val < 2 := (L 0).isLt
    have h1 : (L 1).val < 16 := (L 1).isLt
    omega⟩

abbrev rowK (L : grid0.Coords) : Rect S1048576 := Rect.unit (s := S1048576) (k0_off1 L) S32768.size (k0_off1_inb L)
abbrev xRowK (L : grid0.Coords) : Memref sig .scVector .hbm S32768 .f32 := (xV).slice (rowK L) (fun _ => rfl)
abbrev fRowK (L : grid0.Coords) : Memref sig .scVector .hbm S32768 .f32 := (fV).slice (rowK L) (fun _ => rfl)
abbrev hRowK (L : grid0.Coords) : Memref sig .scVector .hbm S32768 .f32 := (hV).slice (rowK L) (fun _ => rfl)
abbrev yRowK (L : grid0.Coords) : Memref sig .scVector .hbm S32768 .i32 := (yV).slice (rowK L) (fun _ => rfl)

theorem rowK_eq : rowK L = row (wid L) := by
  unfold rowK row Rect.part Rect.block
  congr 1 <;> funext a
  · rw [k0_off1_eq]
    match a with
    | 0 => simp [Shape.partIx, Shape.partSize, wid]; omega
  · match a with
    | 0 => simp [Shape.partSize]

theorem set_xRowK : (xRowK L).view.set = rowSet (wid L) := by
  show ((xV).view.slice (rowK L)).set = _
  rw [View.set_slice, rowK_eq]; exact Finset.map_refl
theorem set_fRowK : (fRowK L).view.set = rowSet (wid L) := by
  show ((fV).view.slice (rowK L)).set = _
  rw [View.set_slice, rowK_eq]; exact Finset.map_refl
theorem set_hRowK : (hRowK L).view.set = rowSet (wid L) := by
  show ((hV).view.slice (rowK L)).set = _
  rw [View.set_slice, rowK_eq]; exact Finset.map_refl
theorem set_yRowK : (yRowK L).view.set = rowSet (wid L) := by
  show ((yV).view.slice (rowK L)).set = _
  rw [View.set_slice, rowK_eq]; exact Finset.map_refl

theorem pts_xRowK (f : Buf (Elt F) (xLoc d)) :
    ((xRowK L).view.loc (V d (cV L) (jV L)) ↦[(xRowK L).view.set]{fullShare} f : sProp 𝕄) = xPts d (wid L) f := by
  rw [set_xRowK]
theorem pts_fRowK (f : Buf (Elt F) (fLoc d)) :
    ((fRowK L).view.loc (V d (cV L) (jV L)) ↦[(fRowK L).view.set]{fullShare} f : sProp 𝕄) = fPts d (wid L) f := by
  rw [set_fRowK]
theorem pts_hRowK (f : Buf (Elt F) (hLoc d)) :
    ((hRowK L).view.loc (V d (cV L) (jV L)) ↦[(hRowK L).view.set]{fullShare} f : sProp 𝕄) = hPts d (wid L) f := by
  rw [set_hRowK]
theorem pts_yRowK (f : Buf (Elt F) (yLoc d)) :
    ((yRowK L).view.loc (V d (cV L) (jV L)) ↦[(yRowK L).view.set]{fullShare} f : sProp 𝕄) = yPts d (wid L) f := by
  rw [set_yRowK]
theorem pts_pV (q : PosShare TreeShare) (f : Buf (Elt F) (pLoc d)) :
    ((pV).view.loc (V d (cV L) (jV L)) ↦{q} f : sProp 𝕄) = pLoc d ↦{q} f := rfl
theorem pts_tV (f : Buf (Elt F) ((V d (cV L) (jV L)).loc cc0_scratch0)) :
    ((tV).view.loc (V d (cV L) (jV L)) ↦{fullShare} f : sProp 𝕄) = (V d (cV L) (jV L)).loc cc0_scratch0 ↦{fullShare} f := rfl
theorem pts_aV (f : Buf (Elt F) ((V d (cV L) (jV L)).loc cc0_scratch1)) :
    ((aV).view.loc (V d (cV L) (jV L)) ↦{fullShare} f : sProp 𝕄) = (V d (cV L) (jV L)).loc cc0_scratch1 ↦{fullShare} f := rfl
theorem pts_bV (f : Buf (Elt F) ((V d (cV L) (jV L)).loc cc0_scratch2)) :
    ((bV).view.loc (V d (cV L) (jV L)) ↦{fullShare} f : sProp 𝕄) = (V d (cV L) (jV L)).loc cc0_scratch2 ↦{fullShare} f := rfl

/-- The cell of a scoped semaphore of the task. -/
abbrev cell (L : grid0.Coords) (d : Dev nD) (s : DmaSem sig) : GSem nD τ sig := (V d (cV L) (jV L), .dma s)

theorem ownSems0_V :
    (ownSems0 (V d (cV L) (jV L)) : sProp 𝕄)
      = iprop(semVal (cell L d cc0_scoped0.sem) 0 ∗ semVal (cell L d cc0_scoped1.sem) 0 ∗ semVal (cell L d cc0_scoped2.sem) 0
          ∗ semVal (cell L d cc0_scoped3.sem) 0 ∗ semVal (cell L d cc0_scoped4.sem) 0
          ∗ bigSep ((((((ownCells (V d (cV L) (jV L))).erase (cell L d cc0_scoped0.sem)).erase (cell L d cc0_scoped1.sem)).erase (cell L d cc0_scoped2.sem)).erase
              (cell L d cc0_scoped3.sem)).erase (cell L d cc0_scoped4.sem)) fun g => semVal g 0) := by
  have ne : ∀ s t : DmaSem sig, s ≠ t → cell L d s ≠ cell L d t := fun s t h e => h (by simpa [cell] using e)
  have own : ∀ s : DmaSem sig, (SemLoc.dma s : SemLoc sig).isScoped .scVector = true → cell L d s ∈ ownCells (V d (cV L) (jV L)) :=
    fun s h => mem_ownCells.mpr ⟨rfl, h⟩
  unfold SparseCore.Cfg.ownSems0
  rw [SparseCore.bigSep_erase' (own cc0_scoped0.sem (by decide)),
    SparseCore.bigSep_erase' (Finset.mem_erase.mpr ⟨ne cc0_scoped1.sem _ (by decide), own _ (by decide)⟩),
    SparseCore.bigSep_erase' (Finset.mem_erase.mpr ⟨ne cc0_scoped2.sem _ (by decide), Finset.mem_erase.mpr ⟨ne _ _ (by decide), own _ (by decide)⟩⟩),
    SparseCore.bigSep_erase' (Finset.mem_erase.mpr ⟨ne cc0_scoped3.sem _ (by decide), Finset.mem_erase.mpr ⟨ne _ _ (by decide), Finset.mem_erase.mpr ⟨ne _ _ (by decide), own _ (by decide)⟩⟩⟩),
    SparseCore.bigSep_erase' (Finset.mem_erase.mpr ⟨ne cc0_scoped4.sem _ (by decide), Finset.mem_erase.mpr ⟨ne _ _ (by decide), Finset.mem_erase.mpr ⟨ne _ _ (by decide),
      Finset.mem_erase.mpr ⟨ne _ _ (by decide), own _ (by decide)⟩⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne : ∀ s t : Ref sig .scVector, s ≠ t → (Proc.scVector (cV L) (jV L)).devRef s ≠ (Proc.scVector (cV L) (jV L)).devRef t :=
    fun s t h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne cc0_scratch1 _ (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 _ (by decide), Finset.mem_erase.mpr ⟨ne _ _ (by decide),
      SparseCore.Cfg.mem_ownRefs_of_owner (p := Proc.scVector (cV L) (jV L)) (b := (Proc.scVector (cV L) (jV L)).devRef cc0_scratch2) rfl⟩⟩)]

/-! ## What a trip computes -/

variable [FloatOps F]

theorem pay3_apply (v3 v7 v12 : Vec F S16 .f32) (l : S16.Idx) : k0_pay3 v3 v7 v12 l = symOf (v3 l) (v7 l) (v12 l) := by
  unfold k0_pay3 k0_pay2 k0_pay1
  simp only [shapeCast_self]
  rfl

theorem pay4_apply (v3 v5 v7 v12 : Vec F S16 .f32) (l : S16.Idx) :
    k0_pay4 v3 v5 v7 v12 l = featOf (v3 l) (v5 l) (v7 l) (v12 l) := by
  unfold k0_pay4 k0_pay2 k0_pay1
  simp only [shapeCast_self]
  rfl

/-- The stretch before trip `k`: the first `16 k` elements are levels, the rest the input. -/
def stretch (p : S48.Idx → F .f32) (x : S32768.Idx → F .f32) (k : ℕ) : S32768.Idx → F .f32 :=
  fun j => if (j 0).val < 16 * k then featAt p (j 0).val (x j) else x j

abbrev thr (L : grid0.Coords) (d : Dev nD) : Thread nD τ := V d (cV L) (jV L)

/-- Before trip `k`: the stretch as above, and the first `16 k` indices in the other scratch buffer. -/
def inv (p : S48.Idx → F .f32) (x : S32768.Idx → F .f32) (k : ℕ) : sProp 𝕄 :=
  iprop(((aV).view.loc (thr L d) ↦{fullShare} stretch p x k)
    ∗ ∃ g : S32768.Idx → BitVec 32, ⌜∀ j : S32768.Idx, (j 0).val < 16 * k → g j = symAt p (j 0).val (x j)⌝
        ∗ (bV).view.loc (thr L d) ↦{fullShare} g)

/-- The sixteen places of trip `k`. -/
abbrev tripRect (k : Fin k0_t1_loop.trips) : Rect S32768 := Rect.unit (s := S32768) (k0_off2 k) S16.size (k0_off2_inb k)

theorem tripRect_emb (k : Fin k0_t1_loop.trips) (l : S16.Idx) : ((tripRect k).emb l 0).val = 16 * k.val + (l 0).val := by
  have e : k0_off2 k 0 = 16 * k.val := by rw [k0_off2_eq]; rfl
  show k0_off2 k 0 + 1 * (l 0).val = _
  omega

theorem mem_tripRect (k : Fin k0_t1_loop.trips) (j : S32768.Idx) :
    j ∈ (tripRect k).set ↔ 16 * k.val ≤ (j 0).val ∧ (j 0).val < 16 * k.val + 16 := by
  have e : k0_off2 k 0 = 16 * k.val := by rw [k0_off2_eq]; rfl
  rw [Rect.mem_set_unit]
  constructor
  · intro h
    have := h 0
    rw [e] at this
    exact this
  · intro h a
    match a with
    | 0 => rw [e]; exact h

theorem par_trip (p : S48.Idx → F .f32) (o : ℕ) (h : o + 16 ≤ 48) (k : Fin k0_t1_loop.trips) (l : S16.Idx) :
    par p o (l 0).val h = par p o ((tripRect k).emb l 0).val h := by
  unfold par
  rw [tripRect_emb]
  congr 3
  omega

/-- What the trip loads is the input: its places are not yet rewritten. -/
theorem load_apply (p : S48.Idx → F .f32) (x : S32768.Idx → F .f32) (k : Fin k0_t1_loop.trips) (l : S16.Idx) :
    View.readAt (Elt F) (aV).view (tripRect k).toLoadRect (stretch p x k.val) l = x ((tripRect k).emb l) := by
  show stretch p x k.val ((tripRect k).emb l) = _
  unfold stretch
  rw [if_neg (by rw [tripRect_emb]; omega)]

theorem stretch_step (p : S48.Idx → F .f32) (x : S32768.Idx → F .f32) (k : Fin k0_t1_loop.trips) (w : Vec F S16 .f32)
    (hw : ∀ l : S16.Idx, w l = featAt p ((tripRect k).emb l 0).val (x ((tripRect k).emb l))) :
    (aV).view.writes (Elt F) (stretch p x k.val) [⟨tripRect k, w⟩] = stretch p x (k.val + 1) := by
  funext j
  show (aV).view.read (Elt F) ((aV).view.writes (Elt F) (stretch p x k.val) [⟨tripRect k, w⟩]) j = _
  by_cases hj : j ∈ (tripRect k).set
  · obtain ⟨l, rfl⟩ : ∃ l, (tripRect k).emb l = j := (tripRect k).exists_idx_of_mem hj
    rw [View.read_writes_cons_emb]
    rw [mem_tripRect] at hj
    unfold stretch
    rw [if_pos (by omega)]
    exact hw l
  · refine (View.read_writes_cons_miss (aV).view (stretch p x k.val) ⟨tripRect k, w⟩ [] j hj).trans ?_
    show stretch p x k.val j = _
    rw [mem_tripRect] at hj
    unfold stretch
    by_cases h : (j 0).val < 16 * k.val
    · rw [if_pos h, if_pos (by omega)]
    · rw [if_neg h, if_neg (by omega)]

theorem index_step (p : S48.Idx → F .f32) (x : S32768.Idx → F .f32) (k : Fin k0_t1_loop.trips) (g : S32768.Idx → BitVec 32)
    (hg : ∀ j : S32768.Idx, (j 0).val < 16 * k.val → g j = symAt p (j 0).val (x j)) (w : Vec F S16 .i32)
    (hw : ∀ l : S16.Idx, w l = symAt p ((tripRect k).emb l 0).val (x ((tripRect k).emb l))) (j : S32768.Idx)
    (hlt : (j 0).val < 16 * (k.val + 1)) :
    (bV).view.writes (Elt F) g [⟨tripRect k, w⟩] j = symAt p (j 0).val (x j) := by
  show (bV).view.read (Elt F) ((bV).view.writes (Elt F) g [⟨tripRect k, w⟩]) j = _
  by_cases hj : j ∈ (tripRect k).set
  · obtain ⟨l, rfl⟩ : ∃ l, (tripRect k).emb l = j := (tripRect k).exists_idx_of_mem hj
    rw [View.read_writes_cons_emb]
    exact hw l
  · refine (View.read_writes_cons_miss (bV).view g ⟨tripRect k, w⟩ [] j hj).trans ?_
    rw [mem_tripRect] at hj
    exact hg j (by omega)

set_option maxHeartbeats 4000000 in
theorem trip (p : S48.Idx → F .f32) (x : S32768.Idx → F .f32) (v3 v5 v7 : Vec F S16 .f32)
    (h3 : ∀ l : S16.Idx, v3 l = par p 0 (l 0).val (by omega)) (h5 : ∀ l : S16.Idx, v5 l = par p 16 (l 0).val (by omega))
    (h7 : ∀ l : S16.Idx, v7 l = par p 32 (l 0).val (by omega)) (k : Fin k0_t1_loop.trips) :
    inv d L p x k.val ⊢ wp frame (wpE (defs₀ (F := F)) 𝒱₀ (thr L d) none) Set.univ
      (k0_t1_body L xV (Memref.isWhole_whole _) pV (Memref.isWhole_whole _) fV (Memref.isWhole_whole _) hV (Memref.isWhole_whole _)
        yV (Memref.isWhole_whole _) tV (Memref.isWhole_whole _) aV (Memref.isWhole_whole _) bV (Memref.isWhole_whole _)
        cc0_scoped0 cc0_scoped1 cc0_scoped2 cc0_scoped3 cc0_scoped4 v3 v5 v7 k ())
      fun _ => inv d L p x (k.val + 1) := by
  unfold k0_t1_body inv
  iintro ⟨Ha, %g, %hg, Hb⟩
  sl_exec
  sl_step
  have hf : ∀ l : S16.Idx, k0_pay4 v3 v5 v7 (View.readAt (Elt F) (aV).view (tripRect k).toLoadRect (stretch p x k.val)) l
      = featAt p ((tripRect k).emb l 0).val (x ((tripRect k).emb l)) := by
    intro l
    rw [pay4_apply, load_apply, h3, h5, h7]
    unfold featAt
    rw [par_trip p 0 _ k, par_trip p 16 _ k, par_trip p 32 _ k]
  have hs : ∀ l : S16.Idx, k0_pay3 v3 v7 (View.readAt (Elt F) (aV).view (tripRect k).toLoadRect (stretch p x k.val)) l
      = symAt p ((tripRect k).emb l 0).val (x ((tripRect k).emb l)) := by
    intro l
    rw [pay3_apply, load_apply, h3, h7]
    unfold symAt
    rw [par_trip p 0 _ k, par_trip p 32 _ k]
  isplitl [Ha]
  · iapply (Entails.of_eq (congrArg (fun f => ((aV).view.loc (thr L d) ↦{fullShare} f : sProp 𝕄)) (stretch_step p x k _ hf)))
    iexact Ha
  iexists _; isplitr
  swap; · iexact Hb
  ipureintro
  exact fun j hj => index_step p x k g hg _ hs j hj

/-! ## What the task sends out -/

theorem trips_eq : Scf.trips k0_t1_loop.lb k0_t1_loop.ub k0_t1_loop.st = 2048 := by decide

theorem stretch_zero (p : S48.Idx → F .f32) (x : S32768.Idx → F .f32) : stretch p x 0 = x := by
  funext j; unfold stretch; rw [if_neg (by omega)]

theorem par_mod (p : S48.Idx → F .f32) (o : ℕ) (h : o + 16 ≤ 48) (m n : ℕ) (e : m % 16 = n % 16) : par p o m h = par p o n h := by
  unfold par; congr 3; omega

theorem rowK_emb (y : S32768.Idx) : ((rowK L).emb y 0).val = 65536 * (L 1).val + 32768 * (L 0).val + (y 0).val := by
  have e : k0_off1 L 0 = 65536 * (L 1).val + 32768 * (L 0).val := by rw [k0_off1_eq]; rfl
  show k0_off1 L 0 + 1 * (y 0).val = _
  omega

theorem featAt_row (p : S48.Idx → F .f32) (y : S32768.Idx) (v : F .f32) :
    featAt p (y 0).val v = featAt p ((rowK L).emb y 0).val v := by
  unfold featAt
  have e : (y 0).val % 16 = ((rowK L).emb y 0).val % 16 := by rw [rowK_emb]; omega
  rw [par_mod p 0 _ _ _ e, par_mod p 16 _ _ _ e, par_mod p 32 _ _ _ e]

theorem symAt_row (p : S48.Idx → F .f32) (y : S32768.Idx) (v : F .f32) :
    symAt p (y 0).val v = symAt p ((rowK L).emb y 0).val v := by
  unfold symAt
  have e : (y 0).val % 16 = ((rowK L).emb y 0).val % 16 := by rw [rowK_emb]; omega
  rw [par_mod p 0 _ _ _ e, par_mod p 32 _ _ _ e]

theorem emb_whole (y : S32768.Idx) : (Rect.whole S32768).emb y = y :=
  (Rect.whole S32768).emb_eq_of_coords y y fun a => by show _ = 0 + 1 * _; omega

theorem stretch_end (p : S48.Idx → F .f32) (x : Buf (Elt F) (xLoc d)) (y : S32768.Idx) :
    stretch p ((xRowK L).view.read (Elt F) x) (Scf.trips k0_t1_loop.lb k0_t1_loop.ub k0_t1_loop.st) y = featAll p x ((rowK L).emb y) := by
  have hy : (y 0).val < 32768 := (y 0).isLt
  unfold stretch
  rw [trips_eq, if_pos (by omega), featAt_row L]
  rfl

theorem out_f (p : S48.Idx → F .f32) (x : Buf (Elt F) (xLoc d)) (f0 : Buf (Elt F) (fLoc d)) (w : S32768.Idx → F .f32)
    (hw : w = stretch p ((xRowK L).view.read (Elt F) x) (Scf.trips k0_t1_loop.lb k0_t1_loop.ub k0_t1_loop.st)) :
    ((fRowK L).view.loc (V d (cV L) (jV L)) ↦[(fRowK L).view.set]{fullShare} (fRowK L).view.writes (Elt F) f0 [⟨Rect.whole S32768, w⟩] : sProp 𝕄)
      = fPts d (wid L) (featAll p x) := by
  rw [← pts_fRowK]
  refine pointsTo_congr fun i hi => ?_
  obtain ⟨y, -, rfl⟩ := Finset.mem_map.mp hi
  have e := View.read_writes_cons_hit (fRowK L).view f0 (Rect.whole S32768) w [] y y (emb_whole y)
  rw [View.read_apply, cast_eq] at e
  refine e.trans ?_
  rw [hw]; exact stretch_end d L p x y

theorem out_h (p : S48.Idx → F .f32) (x : Buf (Elt F) (xLoc d)) (f0 : Buf (Elt F) (hLoc d)) (w : S32768.Idx → F .f32)
    (hw : w = stretch p ((xRowK L).view.read (Elt F) x) (Scf.trips k0_t1_loop.lb k0_t1_loop.ub k0_t1_loop.st)) :
    ((hRowK L).view.loc (V d (cV L) (jV L)) ↦[(hRowK L).view.set]{fullShare} (hRowK L).view.writes (Elt F) f0 [⟨Rect.whole S32768, w⟩] : sProp 𝕄)
      = hPts d (wid L) (featAll p x) := by
  rw [← pts_hRowK]
  refine pointsTo_congr fun i hi => ?_
  obtain ⟨y, -, rfl⟩ := Finset.mem_map.mp hi
  have e := View.read_writes_cons_hit (hRowK L).view f0 (Rect.whole S32768) w [] y y (emb_whole y)
  rw [View.read_apply, cast_eq] at e
  refine e.trans ?_
  rw [hw]; exact stretch_end d L p x y

theorem out_y (p : S48.Idx → F .f32) (x : Buf (Elt F) (xLoc d)) (f0 : Buf (Elt F) (yLoc d)) (w g : S32768.Idx → BitVec 32) (hw : w = g)
    (hg : ∀ j : S32768.Idx, (j 0).val < 16 * Scf.trips k0_t1_loop.lb k0_t1_loop.ub k0_t1_loop.st → g j = symAt p (j 0).val ((xRowK L).view.read (Elt F) x j)) :
    ((yRowK L).view.loc (V d (cV L) (jV L)) ↦[(yRowK L).view.set]{fullShare} (yRowK L).view.writes (Elt F) f0 [⟨Rect.whole S32768, w⟩] : sProp 𝕄)
      = yPts d (wid L) (symAll p x) := by
  rw [← pts_yRowK]
  refine pointsTo_congr fun i hi => ?_
  obtain ⟨y, -, rfl⟩ := Finset.mem_map.mp hi
  have hy : (y 0).val < 32768 := (y 0).isLt
  have e := View.read_writes_cons_hit (yRowK L).view f0 (Rect.whole S32768) w [] y y (emb_whole y)
  rw [View.read_apply, cast_eq] at e
  refine e.trans ?_
  rw [hw, hg y (by rw [trips_eq]; omega), symAt_row L]
  rfl

/-- Sixteen parameters loaded at `o` are the lanes' entries of the vector that begins there. -/
theorem par_load (p : S48.Idx → F .f32) (o : ℕ) (h : o + 16 ≤ 48) (inb : ∀ a, (![o] : Fin 1 → Nat) a + S16.size a ≤ S48.size a) (l : S16.Idx) :
    p ((Rect.unit (s := S48) ![o] S16.size inb).emb l) = par p o (l 0).val h := by
  have hl : (l 0).val < 16 := (l 0).isLt
  unfold par
  congr 1
  funext a
  match a with
  | 0 =>
    refine Fin.ext ?_
    show o + 1 * (l 0).val = o + (l 0).val % 16
    omega

/-- The same, read off the scratch buffer the parameters were fetched to. -/
theorem par_fetched (p w ft : S48.Idx → F .f32) (hw : w = p) (o : ℕ) (h : o + 16 ≤ 48)
    (inb : ∀ a, (![o] : Fin 1 → Nat) a + S16.size a ≤ S48.size a) (l : S16.Idx) :
    View.readAt (Elt F) (tV).view (Rect.unit (s := S48) ![o] S16.size inb).toLoadRect (View.write (Elt F) (tV).view ft w Finset.univ) l
      = par p o (l 0).val h := by
  subst hw
  rw [← par_load w o h inb l]
  exact congrFun (View.write_whole_univ (Val := Elt F) cc0_scratch0 ft w) _

/-! ## The task -/

set_option maxHeartbeats 8000000 in
/-- The task at a symbolic place of the grid, the two operands at given contents: it hands back its stretch of the input and its
    share of the parameters, and its stretches of the three outputs at the stated functions. -/
theorem tile_body (p : Buf (Elt F) (pLoc d)) (x : Buf (Elt F) (xLoc d)) (O : CellTallies nD τ sig (HIx 1)) (W : Waits sig (HIx 1)) (hO : ∀ g, O g none = 0) :
    iprop(levAts (K (F := F)).L (K (F := F)).lev ∗ emp
        ∗ (xPts d (wid L) x ∗ pPts d (wid L) p ∗ (∃ f, fPts d (wid L) f) ∗ (∃ f, hPts d (wid L) f) ∗ (∃ f, yPts d (wid L) f))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__quantize_body L xV (Memref.isWhole_whole _) pV (Memref.isWhole_whole _) fV (Memref.isWhole_whole _) hV (Memref.isWhole_whole _)
            yV (Memref.isWhole_whole _) tV (Memref.isWhole_whole _) aV (Memref.isWhole_whole _) bV (Memref.isWhole_whole _)
            cc0_scoped0 cc0_scoped1 cc0_scoped2 cc0_scoped3 cc0_scoped4)
          fun _ => iprop((xPts d (wid L) x ∗ pPts d (wid L) p ∗ fPts d (wid L) (featAll p x) ∗ hPts d (wid L) (featAll p x) ∗ yPts d (wid L) (symAll p x))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__quantize_body_eq_skeleton]; unfold cc0__quantize_body_skel
  rw [(K (F := F)).scopedBufs_V scFacts d (cV L) (jV L), SparseCore.Cfg.scopedSems0_V (Val := Elt F) d (cV L) (jV L), ownSems0_V, ownBufs_V]
  iintro ⟨#Hlv, -, ⟨Hx, Hp, ⟨%f0, Hf⟩, ⟨%f1, Hh⟩, ⟨%f2, Hy⟩⟩, ⟨⟨%ft, Ht⟩, ⟨%fa, Ha⟩, ⟨%fb, Hb⟩, Hbufs⟩, ⟨Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowK (F := F) d L _).symm) $$ Hx
  ihave Hf' := (Entails.of_eq (pts_fRowK (F := F) d L _).symm) $$ Hf
  ihave Hh' := (Entails.of_eq (pts_hRowK (F := F) d L _).symm) $$ Hh
  ihave Hy' := (Entails.of_eq (pts_yRowK (F := F) d L _).symm) $$ Hy
  ihave Hp' := (Entails.of_eq (pts_pV (F := F) d L _ _).symm) $$ Hp
  ihave Ht' := (Entails.of_eq (pts_tV (F := F) d L _).symm) $$ Ht
  ihave Ha' := (Entails.of_eq (pts_aV (F := F) d L _).symm) $$ Ha
  ihave Hb' := (Entails.of_eq (pts_bV (F := F) d L _).symm) $$ Hb
  sl_exec
  sl_for (fun k _ => inv d L p ((xRowK L).view.read (Elt F) x) k) $$ [Ha' Hb']
  case region =>
    intro k _
    refine trip d L p _ _ _ _ (fun l => ?_) (fun l => ?_) (fun l => ?_) k
    · exact par_fetched p _ ft rfl 0 _ inb_S48_S16_0 l
    · exact par_fetched p _ ft rfl 16 _ inb_S48_S16_16 l
    · exact par_fetched p _ ft rfl 32 _ inb_S48_S16_32 l
  · unfold inv
    isplitl [Ha']
    · iapply (Entails.of_eq (congrArg (fun f => ((aV).view.loc (thr L d) ↦{fullShare} f : sProp 𝕄))
        ((View.write_whole_univ cc0_scratch1 fa _).trans (stretch_zero p ((xRowK L).view.read (Elt F) x)).symm)))
      iexact Ha'
    iexists fb; isplitr
    · ipureintro; intro j hj; omega
    · iexact Hb'
  iintro %_ HI
  unfold inv
  icases HI with ⟨Ha, %g, %hg, Hb⟩
  sl_exec
  sl_step
  isplitl [Hx' Hp' Hf' Hh' Hy']
  · isplitl [Hx']; · iapply (Entails.of_eq (pts_xRowK (F := F) d L _)); iexact Hx'
    isplitl [Hp']; · iexact Hp'
    isplitl [Hf']; · iapply (Entails.of_eq (out_f (F := F) d L p x f0 _ rfl)); iexact Hf'
    isplitl [Hh']; · iapply (Entails.of_eq (out_h (F := F) d L p x f1 _ rfl)); iexact Hh'
    iapply (Entails.of_eq (out_y (F := F) d L p x f2 _ g rfl hg)); iexact Hy'
  isplitl [Ht' Ha Hb Hbufs]
  · isplitl [Ht']; · iexists _; iexact Ht'
    isplitl [Ha]; · iexists _; iexact Ha
    isplitl [Hb]; · iexists _; iexact Hb
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro q hq
  rcases Finset.mem_insert.mp hq with hq | hq; · exact .inr (hq ▸ rfl)
  rcases Finset.mem_insert.mp hq with hq | hq; · exact .inr (hq ▸ rfl)
  rcases Finset.mem_insert.mp hq with hq | hq; · exact .inr (hq ▸ rfl)
  rcases Finset.mem_insert.mp hq with hq | hq; · exact .inr (hq ▸ rfl)
  rcases Finset.mem_insert.mp hq with hq | hq; · exact .inr (hq ▸ rfl)
  exact .inl hq

end Tile

end Cert.Proof.KernelIdeal

end
-- ==== Proof.RunIdeal.lean ====
/-
  The launch of the idealized program: the host's operations before the call, the call on its thirty-two tasks, the three
  reshapes after it. What a buffer of the host holds at the end is written as a valuation (`V3`), computed from the launch
  memory; the arrays the call leaves are `featAll` and `symAll` of the two arrays it is given.
-/
module

public import proofs.«01_k».proof.Proof.TileIdeal
public import Idealize.ShloMosaic.Lib.Pipeline.Frame

@[expose] public section

noncomputable section

namespace Cert.Proof.KernelIdeal

open Cert.KernelIdeal Cert.KernelIdeal.Gen
open Cert.Proof.Quant

open Idealize.ShloMosaic
open Idealize.ShloMosaic.ValueIdx (ix1)
open Idealize.ShloMosaic.SparseCore (S V T)
open Idealize.ShloMosaic.SparseCore.Cfg (HIx Pay)
open Idealize.ShloMosaic.StableHlo (held after seq)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v12_scv : Memref Cert.KernelIdeal.sig Kind.scVector Space.hbm Cert.KernelIdeal.S1048576 EltTy.f32)
local notation "pV" => (Memref.whole Cert.KernelIdeal.main_v11_scv : Memref Cert.KernelIdeal.sig Kind.scVector Space.hbm Cert.KernelIdeal.S48 EltTy.f32)
local notation "fV" => (Memref.whole Cert.KernelIdeal.main_v13_0_scv : Memref Cert.KernelIdeal.sig Kind.scVector Space.hbm Cert.KernelIdeal.S1048576 EltTy.f32)
local notation "hV" => (Memref.whole Cert.KernelIdeal.main_v13_1_scv : Memref Cert.KernelIdeal.sig Kind.scVector Space.hbm Cert.KernelIdeal.S1048576 EltTy.f32)
local notation "yV" => (Memref.whole Cert.KernelIdeal.main_v13_2_scv : Memref Cert.KernelIdeal.sig Kind.scVector Space.hbm Cert.KernelIdeal.S1048576 EltTy.i32)
local notation "tV" => (Memref.whole Cert.KernelIdeal.cc0_scratch0 : Memref Cert.KernelIdeal.sig Kind.scVector Space.vmem Cert.KernelIdeal.S48 EltTy.f32)
local notation "aV" => (Memref.whole Cert.KernelIdeal.cc0_scratch1 : Memref Cert.KernelIdeal.sig Kind.scVector Space.vmem Cert.KernelIdeal.S32768 EltTy.f32)
local notation "bV" => (Memref.whole Cert.KernelIdeal.cc0_scratch2 : Memref Cert.KernelIdeal.sig Kind.scVector Space.vmem Cert.KernelIdeal.S32768 EltTy.i32)

/-! ## The host's operations and its valuations -/

/-- What the host does before the call: the grid's first level and its step, the step's inverse, the three laid side by
    side, the input flattened. -/
def preOps : List (HloOp τ sig (Elt F)) :=
  [StableHlo.unary main_arg1 main_v0 ((extractStridedSlice S1 ![0] · slices_S32_S1_0) : (⟨S32, .f32⟩ : BufTy).Contents (Elt F) → (⟨S1, .f32⟩ : BufTy).Contents (Elt F)),
   StableHlo.reshape main_v0 main_v1 (rfl : (.f32 : EltTy) = .f32) shapeCasts_S1_S_,
   StableHlo.unary main_arg1 main_v2 ((extractStridedSlice S1 ![1] · slices_S32_S1_1) : (⟨S32, .f32⟩ : BufTy).Contents (Elt F) → (⟨S1, .f32⟩ : BufTy).Contents (Elt F)),
   StableHlo.reshape main_v2 main_v3 (rfl : (.f32 : EltTy) = .f32) shapeCasts_S1_S_,
   StableHlo.unary main_arg1 main_v4 ((extractStridedSlice S1 ![0] · slices_S32_S1_0) : (⟨S32, .f32⟩ : BufTy).Contents (Elt F) → (⟨S1, .f32⟩ : BufTy).Contents (Elt F)),
   StableHlo.reshape main_v4 main_v5 (rfl : (.f32 : EltTy) = .f32) shapeCasts_S1_S_,
   StableHlo.binary main_v3 main_v5 main_v6 (subf : (⟨S_, .f32⟩ : BufTy).Contents (Elt F) → (⟨S_, .f32⟩ : BufTy).Contents (Elt F) → (⟨S_, .f32⟩ : BufTy).Contents (Elt F)),
   StableHlo.unary main_v1 main_v7 (broadcastInDim S16 ![] bcast_S_S16 : (⟨S_, .f32⟩ : BufTy).Contents (Elt F) → (⟨S16, .f32⟩ : BufTy).Contents (Elt F)),
   StableHlo.unary main_v6 main_v8 (broadcastInDim S16 ![] bcast_S_S16 : (⟨S_, .f32⟩ : BufTy).Contents (Elt F) → (⟨S16, .f32⟩ : BufTy).Contents (Elt F)),
   StableHlo.nullary main_cst (constant S_ .f32 0x3F800000#32),
   StableHlo.binary main_cst main_v6 main_v9 (Host.divf : (⟨S_, .f32⟩ : BufTy).Contents (Elt F) → (⟨S_, .f32⟩ : BufTy).Contents (Elt F) → (⟨S_, .f32⟩ : BufTy).Contents (Elt F)),
   StableHlo.unary main_v9 main_v10 (broadcastInDim S16 ![] bcast_S_S16 : (⟨S_, .f32⟩ : BufTy).Contents (Elt F) → (⟨S16, .f32⟩ : BufTy).Contents (Elt F)),
   StableHlo.nary ![main_v7, main_v8, main_v10] main_v11 (fun u => (concatenate S48 0 [⟨S16, (u 0 : (⟨S16, .f32⟩ : BufTy).Contents (Elt F))⟩, ⟨S16, (u 1 : (⟨S16, .f32⟩ : BufTy).Contents (Elt F))⟩, ⟨S16, (u 2 : (⟨S16, .f32⟩ : BufTy).Contents (Elt F))⟩] concatenates_S16_S16_S16_S48_d0 : (⟨S48, .f32⟩ : BufTy).Contents (Elt F))),
   StableHlo.reshape main_arg0 main_v12 (rfl : (.f32 : EltTy) = .f32) shapeCasts_S16384x64_S1048576]

/-- What the host does after the call: the results in the input's shape. -/
def postOps : List (HloOp τ sig (Elt F)) :=
  [StableHlo.reshape main_v13_0 main_v14 (rfl : (.f32 : EltTy) = .f32) shapeCasts_S1048576_S16384x64,
   StableHlo.reshape main_v13_1 main_v15 (rfl : (.f32 : EltTy) = .f32) shapeCasts_S1048576_S16384x64,
   StableHlo.reshape main_v13_2 main_v16 (rfl : (.i32 : EltTy) = .i32) shapeCasts_S1048576_S16384x64]

theorem main_eq (d : Dev nD) : main (F := F) d = (seq preOps >>= fun _ => (K (F := F)).run d 0 >>= fun _ => seq postOps >>= fun _ => pure ⟨⟩) := by
  simp only [preOps, postOps, seq, pure_bind, bind_assoc]
  rfl

theorem preOps_tc : (preOps (F := F)).Forall fun op => op.bufs ⊆ StableHlo.tcRefs τ sig := by
  unfold preOps
  refine ⟨StableHlo.unary_bufs_sub _ _ _ _ _, StableHlo.reshape_bufs_sub _ _ _ _ _ _, StableHlo.unary_bufs_sub _ _ _ _ _, StableHlo.reshape_bufs_sub _ _ _ _ _ _,
    StableHlo.unary_bufs_sub _ _ _ _ _, StableHlo.reshape_bufs_sub _ _ _ _ _ _, StableHlo.binary_bufs_sub _ _ _ _ _ _ _, StableHlo.unary_bufs_sub _ _ _ _ _,
    StableHlo.unary_bufs_sub _ _ _ _ _, StableHlo.nullary_bufs_sub _ _ _, StableHlo.binary_bufs_sub _ _ _ _ _ _ _, StableHlo.unary_bufs_sub _ _ _ _ _,
    StableHlo.nary_bufs_sub _ _ _ _ _, StableHlo.reshape_bufs_sub _ _ _ _ _ _⟩

theorem postOps_tc : (postOps (F := F)).Forall fun op => op.bufs ⊆ StableHlo.tcRefs τ sig :=
  ⟨StableHlo.reshape_bufs_sub _ _ _ _ _ _, StableHlo.reshape_bufs_sub _ _ _ _ _ _, StableHlo.reshape_bufs_sub _ _ _ _ _ _⟩

theorem preOps_sub : ∀ op ∈ preOps (F := F), op.bufs ⊆ ucRefs τ sig := fun op h =>
  Pipeline.sub_ucRefs op (List.forall_iff_forall_mem.mp preOps_tc op h)
theorem postOps_sub : ∀ op ∈ postOps (F := F), op.bufs ⊆ ucRefs τ sig := fun op h =>
  Pipeline.sub_ucRefs op (List.forall_iff_forall_mem.mp postOps_tc op h)

theorem preOps_fresh : ∀ op ∈ preOps (F := F), op.fresh = ∅ := by
  refine List.forall_iff_forall_mem.mp ?_
  unfold preOps
  exact ⟨rfl, rfl, rfl, rfl, rfl, rfl, rfl, rfl, rfl, rfl, rfl, rfl, rfl, rfl⟩
theorem postOps_fresh : ∀ op ∈ postOps (F := F), op.fresh = ∅ := by
  refine List.forall_iff_forall_mem.mp ?_
  unfold postOps
  exact ⟨rfl, rfl, rfl⟩

abbrev x' : DevRef τ sig := Proc.devRef .tc (main_v12 : Ref sig .tc)
abbrev p' : DevRef τ sig := Proc.devRef .tc (main_v11 : Ref sig .tc)
abbrev f' : DevRef τ sig := Proc.devRef .tc (main_v13_0 : Ref sig .tc)
abbrev h' : DevRef τ sig := Proc.devRef .tc (main_v13_1 : Ref sig .tc)
abbrev y' : DevRef τ sig := Proc.devRef .tc (main_v13_2 : Ref sig .tc)

variable (m : (ℓ : Loc nD τ sig) → Buf (Elt F) ℓ) (ρ : Dev nD → PrngReg)

/-- The valuation when the call begins, -/
def V1 (d : Dev nD) : Valuation τ sig (Elt F) := after preOps (fun b => m (d, b))
/-- the parameters and the input the call is given, -/
def pIn (d : Dev nD) : Buf (Elt F) (pLoc d) := V1 m d p'
def xIn (d : Dev nD) : Buf (Elt F) (xLoc d) := V1 m d x'
def fOut (d : Dev nD) : Buf (Elt F) (fLoc d) := featAll (pIn m d) (xIn m d)
def hOut (d : Dev nD) : Buf (Elt F) (hLoc d) := featAll (pIn m d) (xIn m d)
def yOut (d : Dev nD) : Buf (Elt F) (yLoc d) := symAll (pIn m d) (xIn m d)
/-- the valuation when it is over, -/
def V2 (d : Dev nD) : Valuation τ sig (Elt F) :=
  Function.update (Function.update (Function.update (V1 m d) f' (fOut m d)) h' (hOut m d)) y' (yOut m d)
/-- and at the program's end. -/
def V3 (d : Dev nD) : Valuation τ sig (Elt F) := after postOps (V2 m d)

/-! ## The tasks' payloads -/

omit [FloatOps F] in
/-- The number of the task of core `c` and subcore `i` of the call's grid. -/
def num (c : Fin ((K (F := F)).nCore 0)) (i : Fin ((K (F := F)).nSub 0)) : Fin 32 :=
  ⟨2 * i.val + c.val, by
    have h0 : c.val < 2 := c.isLt
    have h1 : i.val < 16 := i.isLt
    omega⟩

/-- What a task is given: its stretch of the input, a share of the parameters, its stretches of the results; -/
abbrev tin (d : Dev nD) (n : Fin 32) : sProp 𝕄 :=
  iprop(xPts d n (xIn m d) ∗ pPts d n (pIn m d) ∗ (∃ f, fPts d n f) ∗ (∃ f, hPts d n f) ∗ (∃ f, yPts d n f))
/-- and what it hands back. -/
abbrev tout (d : Dev nD) (n : Fin 32) : sProp 𝕄 :=
  iprop(xPts d n (xIn m d) ∗ pPts d n (pIn m d) ∗ fPts d n (fOut m d) ∗ hPts d n (hOut m d) ∗ yPts d n (yOut m d))

def P : (K (F := F)).Pay (nD := nD) (Val := Elt F) (Name := ℕ) (U := UU) where
  st := fun q d => match q with | 0 => fun c => bigSep Finset.univ fun i => tin m d (num (F := F) c i)
  dn := fun q d => match q with | 0 => fun c => bigSep Finset.univ fun i => tout m d (num (F := F) c i)
  go := fun q d => match q with | 0 => fun c i => tin m d (num (F := F) c i)
  td := fun q d => match q with | 0 => fun c i => tout m d (num (F := F) c i)
  x := fun _ _ => iprop(emp)

instance P_storable : (P (F := F) m).IsStorable where
  st q d c := match q, c with
    | 0, c => (inferInstance : BI.Storable (upEmb : UEmb _ 𝕄) (bigSep Finset.univ fun i => tin m d (num (F := F) c i)))
  dn q d c := match q, c with
    | 0, c => (inferInstance : BI.Storable (upEmb : UEmb _ 𝕄) (bigSep Finset.univ fun i => tout m d (num (F := F) c i)))
  go q d c i := match q, c, i with
    | 0, c, i => (inferInstance : BI.Storable (upEmb : UEmb _ 𝕄) (tin m d (num (F := F) c i)))
  td q d c i := match q, c, i with
    | 0, c, i => (inferInstance : BI.Storable (upEmb : UEmb _ 𝕄) (tout m d (num (F := F) c i)))

/-! ## The call's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__quantize_body (coordsV c s)
          xV (Memref.isWhole_whole _) pV (Memref.isWhole_whole _) fV (Memref.isWhole_whole _) hV (Memref.isWhole_whole _) yV (Memref.isWhole_whole _)
          tV (Memref.isWhole_whole _) aV (Memref.isWhole_whole _) bV (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right (exists_mono fun W' => sep_mono_left (Laws.pure_mono fun hW p hp => ?_))))
  exact (hW p hp).imp_right Or.inl

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (pIn m d) (xIn m d) O W hO).trans (wp_mono frame _ _ fun _ => obl_post)

theorem vecSplit : (K (F := F)).VecSplit' (P m) 0 := by
  intro d c
  show (bigSep Finset.univ fun i => tin m d (num (F := F) c i)) ⊢ |={Set.univ}=> iprop(
      (bigSep Finset.univ fun i => tin m d (num (F := F) c i))
      ∗ ((bigSep Finset.univ fun i => tout m d (num (F := F) c i)) -∗ (bigSep Finset.univ fun i => tout m d (num (F := F) c i))))
  iintro H; imodintro
  isplitl [H]; · iexact H
  iintro H; iexact H

/-! ## Thirty-two tasks: two cores of sixteen -/

omit [FloatOps F] in
theorem num_bij : Function.Bijective fun e : Fin ((K (F := F)).nCore 0) × Fin ((K (F := F)).nSub 0) => num (F := F) e.1 e.2 := by
  refine ⟨fun a b hab => ?_, fun n => ?_⟩
  · have h : 2 * a.2.val + a.1.val = 2 * b.2.val + b.1.val := congrArg Fin.val hab
    have h0 : a.1.val < 2 := a.1.isLt
    have h1 : b.1.val < 2 := b.1.isLt
    exact Prod.ext (Fin.ext (by omega)) (Fin.ext (by omega))
  · exact ⟨(⟨n.val % 2, show n.val % 2 < 2 by omega⟩, ⟨n.val / 2, show n.val / 2 < 16 by have := n.isLt; omega⟩),
      Fin.ext (show 2 * (n.val / 2) + n.val % 2 = n.val by omega)⟩

omit [FloatOps F] in
theorem bigSep_num (Φ : Fin 32 → sProp 𝕄) :
    (bigSep Finset.univ fun c : Fin ((K (F := F)).nCore 0) => bigSep Finset.univ fun i : Fin ((K (F := F)).nSub 0) => Φ (num (F := F) c i))
      = bigSep Finset.univ Φ := by
  rw [bigSep_univ_equiv (Equiv.ofBijective _ (num_bij (F := F))) Φ, bigSep_univ_prod]
  rfl

section Pieces
omit [FloatOps F]
variable (d : Dev nD)

theorem xPts_rows (x : Buf (Elt F) (xLoc d)) : (xLoc d ↦{fullShare} x : sProp 𝕄) = bigSep Finset.univ fun n => xPts d n x := by
  rw [← pointsTo_biUnion Finset.univ (ℓ := xLoc d) (fun n : Fin 32 => rowSet n) fun a _ b _ hab => Rect.part_disjoint xdiv hab]
  exact congrArg (fun I => (xLoc d ↦[I]{fullShare} x : sProp 𝕄)) (Rect.biUnion_part xdiv).symm
theorem fPts_rows (x : Buf (Elt F) (fLoc d)) : (fLoc d ↦{fullShare} x : sProp 𝕄) = bigSep Finset.univ fun n => fPts d n x := by
  rw [← pointsTo_biUnion Finset.univ (ℓ := fLoc d) (fun n : Fin 32 => rowSet n) fun a _ b _ hab => Rect.part_disjoint xdiv hab]
  exact congrArg (fun I => (fLoc d ↦[I]{fullShare} x : sProp 𝕄)) (Rect.biUnion_part xdiv).symm
theorem hPts_rows (x : Buf (Elt F) (hLoc d)) : (hLoc d ↦{fullShare} x : sProp 𝕄) = bigSep Finset.univ fun n => hPts d n x := by
  rw [← pointsTo_biUnion Finset.univ (ℓ := hLoc d) (fun n : Fin 32 => rowSet n) fun a _ b _ hab => Rect.part_disjoint xdiv hab]
  exact congrArg (fun I => (hLoc d ↦[I]{fullShare} x : sProp 𝕄)) (Rect.biUnion_part xdiv).symm
theorem yPts_rows (x : Buf (Elt F) (yLoc d)) : (yLoc d ↦{fullShare} x : sProp 𝕄) = bigSep Finset.univ fun n => yPts d n x := by
  rw [← pointsTo_biUnion Finset.univ (ℓ := yLoc d) (fun n : Fin 32 => rowSet n) fun a _ b _ hab => Rect.part_disjoint xdiv hab]
  exact congrArg (fun I => (yLoc d ↦[I]{fullShare} x : sProp 𝕄)) (Rect.biUnion_part xdiv).symm
theorem pPts_shares (p : Buf (Elt F) (pLoc d)) : (pLoc d ↦{fullShare} p : sProp 𝕄) = bigSep Finset.univ fun n => pPts d n p :=
  ShareLeaves.pointsTo_leaves Finset.univ p 5 fullShare

end Pieces

theorem st0_of (d : Dev nD) (f : Buf (Elt F) (fLoc d)) (h : Buf (Elt F) (hLoc d)) (y : Buf (Elt F) (yLoc d)) :
    iprop((xLoc d ↦{fullShare} xIn m d) ∗ (pLoc d ↦{fullShare} pIn m d) ∗ (fLoc d ↦{fullShare} f) ∗ (hLoc d ↦{fullShare} h) ∗ (yLoc d ↦{fullShare} y))
      ⊢ (bigSep Finset.univ fun c : Fin ((K (F := F)).nCore 0) => (P m).st 0 d c : sProp 𝕄) := by
  show _ ⊢ (bigSep Finset.univ fun c : Fin ((K (F := F)).nCore 0) => bigSep Finset.univ fun i : Fin ((K (F := F)).nSub 0) => tin m d (num (F := F) c i) : sProp 𝕄)
  rw [bigSep_num (F := F) (fun n => tin m d n), xPts_rows, pPts_shares, fPts_rows, hPts_rows, yPts_rows, ← bigSep_sep', ← bigSep_sep', ← bigSep_sep', ← bigSep_sep']
  refine bigSep_mono fun n _ => ?_
  show iprop(xPts d n (xIn m d) ∗ pPts d n (pIn m d) ∗ fPts d n f ∗ hPts d n h ∗ yPts d n y) ⊢ tin m d n
  iintro ⟨Hx, Hp, Hf, Hh, Hy⟩
  isplitl [Hx]; · iexact Hx
  isplitl [Hp]; · iexact Hp
  isplitl [Hf]; · iexists _; iexact Hf
  isplitl [Hh]; · iexists _; iexact Hh
  iexists _; iexact Hy

theorem dn0_eq (d : Dev nD) :
    (bigSep Finset.univ fun c : Fin ((K (F := F)).nCore 0) => (P m).dn 0 d c : sProp 𝕄)
      = iprop((xLoc d ↦{fullShare} xIn m d) ∗ (pLoc d ↦{fullShare} pIn m d) ∗ (fLoc d ↦{fullShare} fOut m d) ∗ (hLoc d ↦{fullShare} hOut m d)
          ∗ (yLoc d ↦{fullShare} yOut m d)) := by
  show (bigSep Finset.univ fun c : Fin ((K (F := F)).nCore 0) => bigSep Finset.univ fun i : Fin ((K (F := F)).nSub 0) => tout m d (num (F := F) c i) : sProp 𝕄) = _
  rw [bigSep_num (F := F) (fun n => tout m d n), xPts_rows, pPts_shares, fPts_rows, hPts_rows, yPts_rows, ← bigSep_sep', ← bigSep_sep', ← bigSep_sep', ← bigSep_sep']

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) := by
    refine (bigSep_congr fun thr _ => ?_).trans (bigSep_emp_const _)
    exact bigSep_emp_const _
  have hd : (bigSep Finset.univ fun _ : Dev nD => iprop(emp)) = (iprop(emp) : sProp 𝕄) := bigSep_emp_const _
  rw [hx, hd]
  unfold u₀
  iintro Hu
  ihave H := (ownU_pair _ _) $$ Hu
  icases H with ⟨HH, -⟩
  imodintro
  isplitl [HH]; · iexact HH
  isplitr <;> iempintro

/-! ## @main on the TensorCore -/

/-- The five arrays the call works on. -/
abbrev S5 : Finset (DevRef τ sig) := {x', p', f', h', y'}

omit [FloatOps F] in
theorem held_S5 (d : Dev nD) (W : Valuation τ sig (Elt F)) :
    (held (T d) S5 W : sProp 𝕄)
      = iprop((xLoc d ↦{fullShare} W x') ∗ (pLoc d ↦{fullShare} W p') ∗ (fLoc d ↦{fullShare} W f') ∗ (hLoc d ↦{fullShare} W h') ∗ (yLoc d ↦{fullShare} W y')) := by
  unfold held S5
  rw [SparseCore.bigSep_insert' (by decide), SparseCore.bigSep_insert' (by decide), SparseCore.bigSep_insert' (by decide),
    SparseCore.bigSep_insert' (by decide), bigSep_singleton]

theorem mem_uc (b : Ref sig .tc) (hb : (Proc.devRef (τ := τ) .tc b).isScoped = false) : Proc.devRef .tc b ∈ ucRefs τ sig :=
  Finset.mem_filter.mpr ⟨StableHlo.devRef_mem_tcRefs b, by rw [hb]; decide⟩

theorem S5_sub : S5 ⊆ ucRefs τ sig := by
  intro b hb
  simp only [S5, Finset.mem_insert, Finset.mem_singleton] at hb
  rcases hb with rfl | rfl | rfl | rfl | rfl
  · exact mem_uc main_v12 rfl
  · exact mem_uc main_v11 rfl
  · exact mem_uc main_v13_0 rfl
  · exact mem_uc main_v13_1 rfl
  · exact mem_uc main_v13_2 rfl

theorem V2_x (d : Dev nD) : V2 m d x' = xIn m d := by
  unfold V2
  rw [Function.update_of_ne (show x' ≠ y' by decide), Function.update_of_ne (show x' ≠ h' by decide), Function.update_of_ne (show x' ≠ f' by decide)]
  rfl
theorem V2_p (d : Dev nD) : V2 m d p' = pIn m d := by
  unfold V2
  rw [Function.update_of_ne (show p' ≠ y' by decide), Function.update_of_ne (show p' ≠ h' by decide), Function.update_of_ne (show p' ≠ f' by decide)]
  rfl
theorem V2_f (d : Dev nD) : V2 m d f' = fOut m d := by
  unfold V2
  rw [Function.update_of_ne (show f' ≠ y' by decide), Function.update_of_ne (show f' ≠ h' by decide), Function.update_self]
theorem V2_h (d : Dev nD) : V2 m d h' = hOut m d := by
  unfold V2
  rw [Function.update_of_ne (show h' ≠ y' by decide), Function.update_self]
theorem V2_y (d : Dev nD) : V2 m d y' = yOut m d := by
  unfold V2
  rw [Function.update_self]
theorem V2_of_ne (d : Dev nD) (b : DevRef τ sig) (hb : b ∉ S5) : V2 m d b = V1 m d b := by
  simp only [S5, Finset.mem_insert, Finset.mem_singleton, not_or] at hb
  unfold V2
  rw [Function.update_of_ne hb.2.2.2.2, Function.update_of_ne hb.2.2.2.1, Function.update_of_ne hb.2.2.1]

theorem held_rest (d : Dev nD) : (held (T d) (ucRefs τ sig \ S5) (V1 m d) : sProp 𝕄) = held (T d) (ucRefs τ sig \ S5) (V2 m d) :=
  StableHlo.held_congr (T d) fun b hb => (V2_of_ne m d b (Finset.mem_sdiff.mp hb).2).symm

theorem held_V1 (d : Dev nD) :
    (held (d.tc : Thread nD τ) (ucRefs τ sig) (after preOps fun b => m (d, b)) : sProp 𝕄)
      = iprop(((xLoc d ↦{fullShare} xIn m d) ∗ (pLoc d ↦{fullShare} pIn m d) ∗ (fLoc d ↦{fullShare} V1 m d f') ∗ (hLoc d ↦{fullShare} V1 m d h')
          ∗ (yLoc d ↦{fullShare} V1 m d y')) ∗ held (T d) (ucRefs τ sig \ S5) (V2 m d)) := by
  show (held (T d) (ucRefs τ sig) (V1 m d) : sProp 𝕄) = _
  rw [StableHlo.held_sub_split (T d) S5_sub, held_S5, held_rest]; rfl

theorem held_V2 (d : Dev nD) :
    (held (d.tc : Thread nD τ) (ucRefs τ sig) (V2 m d) : sProp 𝕄)
      = iprop(((xLoc d ↦{fullShare} xIn m d) ∗ (pLoc d ↦{fullShare} pIn m d) ∗ (fLoc d ↦{fullShare} fOut m d) ∗ (hLoc d ↦{fullShare} hOut m d)
          ∗ (yLoc d ↦{fullShare} yOut m d)) ∗ held (T d) (ucRefs τ sig \ S5) (V2 m d)) := by
  show (held (T d) (ucRefs τ sig) (V2 m d) : sProp 𝕄) = _
  rw [StableHlo.held_sub_split (T d) S5_sub, held_S5, V2_x, V2_p, V2_f, V2_h, V2_y]

/-- What @main leaves the claim: every array of the host at its last contents. -/
abbrev FIN (d : Dev nD) : sProp 𝕄 := held (T d) (ucRefs τ sig) (V3 m d)

theorem unscoped_held (d : Dev nD) :
    (unscopedBufs d (fun b => m ((SparseCore.T d).loc b)) : sProp 𝕄) = held (T d) (ucRefs τ sig) (fun b => m (d, b)) :=
  Pipeline.unscopedBufs_held (Ix := HIx 1) (Name := ℕ) (U := UU) (Lvl := ℕ) d (fun b => m (d, b))

/-- @main on device `d`'s TensorCore: the operations before the call, the call, the operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, unscoped_held]
  iintro ⟨#Hctx, Hst, ⟨Hb, Hheld, Hts, -⟩, -⟩
  iapply (StableHlo.wp_seq 𝒱 none Set.univ d (ucRefs τ sig) _ preOps preOps_sub preOps_fresh (fun b => m (d, b))) $$ [Hb Hheld]
  · isplitl [Hb] <;> iassumption
  iintro ⟨Hb, Hheld⟩
  ihave Hh := (Entails.of_eq (held_V1 (F := F) m d)) $$ Hheld
  icases Hh with ⟨Hfive, Hrest⟩
  ihave Hsts := (st0_of m d _ _ _) $$ Hfive
  rw [wp_bind]
  iapply ((K (F := F)).wp_run (D (F := F)) 𝒱 (EH := EH) (P := P m) κ d 0) $$ [Hst Hsts Hb Hrest Hts]
  isplitr; · iexact Hctx
  isplitl [Hst]; · iexact Hst
  isplitl [Hsts]; · iexact Hsts
  iintro ⟨Hst, Hdn⟩
  ihave Hfive := (Entails.of_eq (dn0_eq m d)) $$ Hdn
  iapply (StableHlo.wp_seq 𝒱 none Set.univ d (ucRefs τ sig) _ postOps postOps_sub postOps_fresh (V2 m d)) $$ [Hb Hfive Hrest]
  · isplitl [Hb]; · iexact Hb
    rw [held_V2]
    isplitl [Hfive] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  refine (forall_intro fun b => ?_).trans (pure_forall.2)
  refine (forall_intro fun hb => ?_).trans (pure_forall.2)
  refine (sep_mono_left (bigSep_elim hb)).trans (Laws.sep_comm.1.trans (SI_pointsTo_agree.trans (Laws.pure_mono fun h => ?_)))
  exact funext fun i => h i (Finset.mem_univ i)

/-! ## The program's run -/

/-- What the program's run leaves. -/
def QC : PUnit × MemSt nD τ sig (Elt F) → Prop := fun r => (∀ (c : Dev nD), ∀ b ∈ ucRefs τ sig, r.2.mem (c, b) = V3 m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal
-- ==== Proof.RefRun.lean ====
/-
  The reference's run. Its program is one line of host operations; it is cut here into five stages, and each stage's last
  value is written as an array function of what the stage reads.
-/
module

public import proofs.«01_k».proof.Proof.RunKernel
public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

noncomputable section

namespace Cert.Proof.ReferenceIdeal

open Cert.ReferenceIdeal Cert.ReferenceIdeal.Gen

open Idealize.ShloMosaic
open Idealize.ShloMosaic.StableHlo (after seq)
open Idealize.SL.Sem

variable {F : FTy → Type} [FloatOps F]

/-! ## The line, in five stages -/

/-- The squared distances of every element to every level. -/
def distOps : List (HloOp τ sig (Elt F)) :=
  [StableHlo.reshape main_arg0 main_v0 (rfl : (.f32 : EltTy) = .f32) shapeCasts_S16384x64_S1048576x1,
   StableHlo.unary main_arg1 main_v1 (broadcastInDim S1x32 ![1] bcast_S32_S1x32_1 : (⟨S32, .f32⟩ : BufTy).Contents (Elt F) → (⟨S1x32, .f32⟩ : BufTy).Contents (Elt F)),
   StableHlo.unary main_v0 main_v2 (broadcastInDim S1048576x32 ![0, 1] bcast_S1048576x1_S1048576x32_0_1 : (⟨S1048576x1, .f32⟩ : BufTy).Contents (Elt F) → (⟨S1048576x32, .f32⟩ : BufTy).Contents (Elt F)),
   StableHlo.unary main_v1 main_v3 (broadcastInDim S1048576x32 ![0, 1] bcast_S1x32_S1048576x32_0_1 : (⟨S1x32, .f32⟩ : BufTy).Contents (Elt F) → (⟨S1048576x32, .f32⟩ : BufTy).Contents (Elt F)),
   StableHlo.binary main_v2 main_v3 main_v4 (subf : (⟨S1048576x32, .f32⟩ : BufTy).Contents (Elt F) → (⟨S1048576x32, .f32⟩ : BufTy).Contents (Elt F) → (⟨S1048576x32, .f32⟩ : BufTy).Contents (Elt F)),
   StableHlo.binary main_v4 main_v4 main_v5 (mulf : (⟨S1048576x32, .f32⟩ : BufTy).Contents (Elt F) → (⟨S1048576x32, .f32⟩ : BufTy).Contents (Elt F) → (⟨S1048576x32, .f32⟩ : BufTy).Contents (Elt F))]

/-- The softmax of the scaled distances. -/
def softOps : List (HloOp τ sig (Elt F)) :=
  [StableHlo.nullary main_cst (constant S_ .f32 0xBE4CCCCD#32),
   StableHlo.unary main_cst main_v6 (broadcastInDim S1048576x32 ![] bcast_S_S1048576x32 : (⟨S_, .f32⟩ : BufTy).Contents (Elt F) → (⟨S1048576x32, .f32⟩ : BufTy).Contents (Elt F)),
   StableHlo.binary main_v6 main_v5 main_v7 (mulf : (⟨S1048576x32, .f32⟩ : BufTy).Contents (Elt F) → (⟨S1048576x32, .f32⟩ : BufTy).Contents (Elt F) → (⟨S1048576x32, .f32⟩ : BufTy).Contents (Elt F)),
   StableHlo.nullary main_cst_0 (constant S_ .f32 0xFF800000#32),
   StableHlo.binary main_v7 main_cst_0 main_v8 ((fun x v => Host.reduce FloatOps.maximumf x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
   StableHlo.nullary main_cst_1 (constant S_ .f32 0xFF800000#32),
   StableHlo.unary main_cst_1 main_v9 (broadcastInDim S1048576 ![] bcast_S_S1048576 : (⟨S_, .f32⟩ : BufTy).Contents (Elt F) → (⟨S1048576, .f32⟩ : BufTy).Contents (Elt F)),
   StableHlo.binary main_v9 main_v8 main_v10 (maximumf : (⟨S1048576, .f32⟩ : BufTy).Contents (Elt F) → (⟨S1048576, .f32⟩ : BufTy).Contents (Elt F) → (⟨S1048576, .f32⟩ : BufTy).Contents (Elt F)),
   StableHlo.unary main_v10 main_v11 (broadcastInDim S1048576x1 ![0] bcast_S1048576_S1048576x1_0 : (⟨S1048576, .f32⟩ : BufTy).Contents (Elt F) → (⟨S1048576x1, .f32⟩ : BufTy).Contents (Elt F)),
   StableHlo.unary main_v11 main_v12 (broadcastInDim S1048576x32 ![0, 1] bcast_S1048576x1_S1048576x32_0_1 : (⟨S1048576x1, .f32⟩ : BufTy).Contents (Elt F) → (⟨S1048576x32, .f32⟩ : BufTy).Contents (Elt F)),
   StableHlo.binary main_v7 main_v12 main_v13 (subf : (⟨S1048576x32, .f32⟩ : BufTy).Contents (Elt F) → (⟨S1048576x32, .f32⟩ : BufTy).Contents (Elt F) → (⟨S1048576x32, .f32⟩ : BufTy).Contents (Elt F)),
   StableHlo.unary main_v13 main_v14 (Host.exp : (⟨S1048576x32, .f32⟩ : BufTy).Contents (Elt F) → (⟨S1048576x32, .f32⟩ : BufTy).Contents (Elt F)),
   StableHlo.nullary main_cst_2 (constant S_ .f32 0x00000000#32),
   StableHlo.binary main_v14 main_cst_2 main_v15 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
   StableHlo.unary main_v15 main_v16 (broadcastInDim S1048576x1 ![0] bcast_S1048576_S1048576x1_0 : (⟨S1048576, .f32⟩ : BufTy).Contents (Elt F) → (⟨S1048576x1, .f32⟩ : BufTy).Contents (Elt F)),
   StableHlo.unary main_v16 main_v17 (broadcastInDim S1048576x32 ![0, 1] bcast_S1048576x1_S1048576x32_0_1 : (⟨S1048576x1, .f32⟩ : BufTy).Contents (Elt F) → (⟨S1048576x32, .f32⟩ : BufTy).Contents (Elt F)),
   StableHlo.binary main_v14 main_v17 main_v18 (Host.divf : (⟨S1048576x32, .f32⟩ : BufTy).Contents (Elt F) → (⟨S1048576x32, .f32⟩ : BufTy).Contents (Elt F) → (⟨S1048576x32, .f32⟩ : BufTy).Contents (Elt F))]

/-- The levels weighted by it, summed. -/
def meanOps : List (HloOp τ sig (Elt F)) :=
  [StableHlo.unary main_arg1 main_v19 (broadcastInDim S1x32 ![1] bcast_S32_S1x32_1 : (⟨S32, .f32⟩ : BufTy).Contents (Elt F) → (⟨S1x32, .f32⟩ : BufTy).Contents (Elt F)),
   StableHlo.unary main_v19 main_v20 (broadcastInDim S1048576x32 ![0, 1] bcast_S1x32_S1048576x32_0_1 : (⟨S1x32, .f32⟩ : BufTy).Contents (Elt F) → (⟨S1048576x32, .f32⟩ : BufTy).Contents (Elt F)),
   StableHlo.binary main_v20 main_v18 main_v21 (mulf : (⟨S1048576x32, .f32⟩ : BufTy).Contents (Elt F) → (⟨S1048576x32, .f32⟩ : BufTy).Contents (Elt F) → (⟨S1048576x32, .f32⟩ : BufTy).Contents (Elt F)),
   StableHlo.nullary main_cst_3 (constant S_ .f32 0x00000000#32),
   StableHlo.binary main_v21 main_cst_3 main_v22 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
   StableHlo.reshape main_v22 main_v23 (rfl : (.f32 : EltTy) = .f32) shapeCasts_S1048576_S16384x64]

/-- The nearest level, in the shape of the input. -/
def nearOps : List (HloOp τ sig (Elt F)) :=
  [StableHlo.TRef.nullary main_call0.v0 (iotaInDim S1048576x32 32 1),
   StableHlo.TRef.nullary main_call0.cst (constant S_ .f32 0x7F800000#32),
   StableHlo.TRef.nullary main_call0.c (constantI S_ 32 0#32),
   StableHlo.TRef.quaternary (.of main_v5) main_call0.v0 main_call0.cst main_call0.c main_call0.v1_0 (fun x y u v j => (Host.argReduce reducer_argmin_f32_i32 x y u v reducesTo_S1048576x32_S1048576_d1 h_S_ j).1),
   StableHlo.TRef.quaternary (.of main_v5) main_call0.v0 main_call0.cst main_call0.c main_call0.v1_1 (fun x y u v j => (Host.argReduce reducer_argmin_f32_i32 x y u v reducesTo_S1048576x32_S1048576_d1 h_S_ j).2),
   StableHlo.reshape main_v24 main_v25 (rfl : (.i32 : EltTy) = .i32) shapeCasts_S1048576_S16384x64]

/-- That level read from the grid; the soft mean moved onto it. -/
def pickOps : List (HloOp τ sig (Elt F)) :=
  [StableHlo.nullary main_c (constantI S_ 32 0#32),
   StableHlo.unary main_c main_v26 (broadcastInDim S16384x64 ![] bcast_S_S16384x64 : (⟨S_, .i32⟩ : BufTy).Contents (Elt F) → (⟨S16384x64, .i32⟩ : BufTy).Contents (Elt F)),
   StableHlo.binary main_v25 main_v26 main_v27 (cmpi .slt : (⟨S16384x64, .i32⟩ : BufTy).Contents (Elt F) → (⟨S16384x64, .i32⟩ : BufTy).Contents (Elt F) → (⟨S16384x64, .i1⟩ : BufTy).Contents (Elt F)),
   StableHlo.nullary main_c_4 (constantI S_ 32 32#32),
   StableHlo.unary main_c_4 main_v28 (broadcastInDim S16384x64 ![] bcast_S_S16384x64 : (⟨S_, .i32⟩ : BufTy).Contents (Elt F) → (⟨S16384x64, .i32⟩ : BufTy).Contents (Elt F)),
   StableHlo.binary main_v25 main_v28 main_v29 (addi : (⟨S16384x64, .i32⟩ : BufTy).Contents (Elt F) → (⟨S16384x64, .i32⟩ : BufTy).Contents (Elt F) → (⟨S16384x64, .i32⟩ : BufTy).Contents (Elt F)),
   StableHlo.ternary main_v27 main_v29 main_v25 main_v30 (select : (⟨S16384x64, .i1⟩ : BufTy).Contents (Elt F) → (⟨S16384x64, .i32⟩ : BufTy).Contents (Elt F) → (⟨S16384x64, .i32⟩ : BufTy).Contents (Elt F) → (⟨S16384x64, .i32⟩ : BufTy).Contents (Elt F)),
   StableHlo.unary main_v30 main_v31 (broadcastInDim S16384x64x1 ![0, 1] bcast_S16384x64_S16384x64x1_0_1 : (⟨S16384x64, .i32⟩ : BufTy).Contents (Elt F) → (⟨S16384x64x1, .i32⟩ : BufTy).Contents (Elt F)),
   StableHlo.binary main_arg1 main_v31 main_v32 ((fun x i => Host.gather gather_S32_S16384x64x1_S16384x64_n_0_n_n_0_2_1 x i) : (⟨S32, .f32⟩ : BufTy).Contents (Elt F) → (⟨S16384x64x1, .i32⟩ : BufTy).Contents (Elt F) → (⟨S16384x64, .f32⟩ : BufTy).Contents (Elt F)),
   StableHlo.binary main_v32 main_v23 main_v33 (subf : (⟨S16384x64, .f32⟩ : BufTy).Contents (Elt F) → (⟨S16384x64, .f32⟩ : BufTy).Contents (Elt F) → (⟨S16384x64, .f32⟩ : BufTy).Contents (Elt F)),
   StableHlo.binary main_v23 main_v33 main_v34 (addf : (⟨S16384x64, .f32⟩ : BufTy).Contents (Elt F) → (⟨S16384x64, .f32⟩ : BufTy).Contents (Elt F) → (⟨S16384x64, .f32⟩ : BufTy).Contents (Elt F))]

/-- The whole line. -/
def refOps : List (HloOp τ sig (Elt F)) := distOps ++ (softOps ++ (meanOps ++ (nearOps ++ pickOps)))

theorem main_seq (d : Dev nD) : StableHlo.IsSeq (main (F := F) d) refOps := by
  unfold StableHlo.IsSeq refOps
  rfl

theorem distOps_tc : (distOps (F := F)).Forall fun op => op.bufs ⊆ StableHlo.tcRefs τ sig :=
  ⟨StableHlo.reshape_bufs_sub _ _ _ _ _ _, StableHlo.unary_bufs_sub _ _ _ _ _, StableHlo.unary_bufs_sub _ _ _ _ _,
    StableHlo.unary_bufs_sub _ _ _ _ _, StableHlo.binary_bufs_sub _ _ _ _ _ _ _, StableHlo.binary_bufs_sub _ _ _ _ _ _ _⟩

theorem softOps_tc : (softOps (F := F)).Forall fun op => op.bufs ⊆ StableHlo.tcRefs τ sig :=
  ⟨StableHlo.nullary_bufs_sub _ _ _, StableHlo.unary_bufs_sub _ _ _ _ _, StableHlo.binary_bufs_sub _ _ _ _ _ _ _, StableHlo.nullary_bufs_sub _ _ _,
    StableHlo.binary_bufs_sub _ _ _ _ _ _ _, StableHlo.nullary_bufs_sub _ _ _, StableHlo.unary_bufs_sub _ _ _ _ _,
    StableHlo.binary_bufs_sub _ _ _ _ _ _ _, StableHlo.unary_bufs_sub _ _ _ _ _, StableHlo.unary_bufs_sub _ _ _ _ _,
    StableHlo.binary_bufs_sub _ _ _ _ _ _ _, StableHlo.unary_bufs_sub _ _ _ _ _, StableHlo.nullary_bufs_sub _ _ _,
    StableHlo.binary_bufs_sub _ _ _ _ _ _ _, StableHlo.unary_bufs_sub _ _ _ _ _, StableHlo.unary_bufs_sub _ _ _ _ _,
    StableHlo.binary_bufs_sub _ _ _ _ _ _ _⟩

theorem meanOps_tc : (meanOps (F := F)).Forall fun op => op.bufs ⊆ StableHlo.tcRefs τ sig :=
  ⟨StableHlo.unary_bufs_sub _ _ _ _ _, StableHlo.unary_bufs_sub _ _ _ _ _, StableHlo.binary_bufs_sub _ _ _ _ _ _ _, StableHlo.nullary_bufs_sub _ _ _,
    StableHlo.binary_bufs_sub _ _ _ _ _ _ _, StableHlo.reshape_bufs_sub _ _ _ _ _ _⟩

theorem nearOps_tc : (nearOps (F := F)).Forall fun op => op.bufs ⊆ StableHlo.tcRefs τ sig :=
  ⟨StableHlo.nullary_bufs_sub _ _ _, StableHlo.nullary_bufs_sub _ _ _, StableHlo.nullary_bufs_sub _ _ _,
    StableHlo.quaternary_bufs_sub _ _ _ _ _ _ _ _ _ _ _, StableHlo.quaternary_bufs_sub _ _ _ _ _ _ _ _ _ _ _, StableHlo.reshape_bufs_sub _ _ _ _ _ _⟩

theorem pickOps_tc : (pickOps (F := F)).Forall fun op => op.bufs ⊆ StableHlo.tcRefs τ sig :=
  ⟨StableHlo.nullary_bufs_sub _ _ _, StableHlo.unary_bufs_sub _ _ _ _ _, StableHlo.binary_bufs_sub _ _ _ _ _ _ _, StableHlo.nullary_bufs_sub _ _ _,
    StableHlo.unary_bufs_sub _ _ _ _ _, StableHlo.binary_bufs_sub _ _ _ _ _ _ _, StableHlo.ternary_bufs_sub _ _ _ _ _ _ _ _ _,
    StableHlo.unary_bufs_sub _ _ _ _ _, StableHlo.binary_bufs_sub _ _ _ _ _ _ _, StableHlo.binary_bufs_sub _ _ _ _ _ _ _,
    StableHlo.binary_bufs_sub _ _ _ _ _ _ _⟩

theorem refOps_tc : (refOps (F := F)).Forall fun op => op.bufs ⊆ StableHlo.tcRefs τ sig := by
  unfold refOps
  simp only [List.forall_append]
  exact ⟨distOps_tc, softOps_tc, meanOps_tc, nearOps_tc, pickOps_tc⟩

theorem refOps_fresh : ∀ op ∈ refOps (F := F), op.fresh = ∅ := by
  refine List.forall_iff_forall_mem.mp ?_
  repeat' (first | exact rfl | apply And.intro)

theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after refOps (fun b => m (d, b)) (Proc.devRef .tc b) :=
  StableHlo.run_hlo defs main main_seq (by decide) (by decide) refOps_tc refOps_fresh m ρ

/-! ## What each stage leaves -/

/-- Squared distance of element `a` to level `b`, at (a, b). -/
def sqDist (x : FVec F S16384x64 .f32) (l : FVec F S32 .f32) : FVec F S1048576x32 .f32 :=
  have r : FVec F S1048576x32 .f32 :=
    subf (broadcastInDim S1048576x32 ![0, 1] bcast_S1048576x1_S1048576x32_0_1 (shapeCast S1048576x1 x shapeCasts_S16384x64_S1048576x1))
      (broadcastInDim S1048576x32 ![0, 1] bcast_S1x32_S1048576x32_0_1 (broadcastInDim S1x32 ![1] bcast_S32_S1x32_1 l))
  mulf r r

/-- The distances scaled by minus one fifth. -/
def scaled (q : FVec F S1048576x32 .f32) : FVec F S1048576x32 .f32 :=
  mulf (broadcastInDim S1048576x32 ![] bcast_S_S1048576x32 (constant S_ .f32 0xBE4CCCCD#32)) q

/-- Each row's largest entry. -/
def rowMax (z : FVec F S1048576x32 .f32) : FVec F S1048576 .f32 :=
  maximumf (broadcastInDim S1048576 ![] bcast_S_S1048576 (constant S_ .f32 0xFF800000#32))
    (Host.reduce FloatOps.maximumf z (constant S_ .f32 0xFF800000#32) reducesTo_S1048576x32_S1048576_d1 h_S_)

/-- A value per row, laid along the row. -/
def alongRow (u : FVec F S1048576 .f32) : FVec F S1048576x32 .f32 :=
  broadcastInDim S1048576x32 ![0, 1] bcast_S1048576x1_S1048576x32_0_1 (broadcastInDim S1048576x1 ![0] bcast_S1048576_S1048576x1_0 u)

/-- Each row's sum. -/
def rowSum (z : FVec F S1048576x32 .f32) : FVec F S1048576 .f32 :=
  Host.reduceAdd z (constant S_ .f32 0x00000000#32) reducesTo_S1048576x32_S1048576_d1 h_S_

/-- The exponentials of the entries less their row's largest. -/
def expRow (z : FVec F S1048576x32 .f32) : FVec F S1048576x32 .f32 := Host.exp (subf z (alongRow (rowMax z)))

/-- The softmax of each row. -/
def softRow (q : FVec F S1048576x32 .f32) : FVec F S1048576x32 .f32 :=
  Host.divf (expRow (scaled q)) (alongRow (rowSum (expRow (scaled q))))

/-- The levels' mean under each row's weights, in the input's shape. -/
def softMean (l : FVec F S32 .f32) (w : FVec F S1048576x32 .f32) : FVec F S16384x64 .f32 :=
  shapeCast S16384x64 (rowSum (mulf (broadcastInDim S1048576x32 ![0, 1] bcast_S1x32_S1048576x32_0_1 (broadcastInDim S1x32 ![1] bcast_S32_S1x32_1 l)) w))
    shapeCasts_S1048576_S16384x64

/-- The index half of a reduction of pairs. -/
def argIdx {s t u : Shape} {axes : List (Fin s.rank)} (f : F .f32 × BitVec 32 → F .f32 × BitVec 32 → F .f32 × BitVec 32) (x : FVec F s .f32)
    (y : s.Idx → BitVec 32) (ix : FVec F u .f32) (iy : u.Idx → BitVec 32) (h : s.ReducesTo axes t) (hu : 0 < u.numel) : t.Idx → BitVec 32 :=
  fun j => (Host.argReduce f x y ix iy h hu j).2

/-- Each row's nearest level. -/
def rowNear (q : FVec F S1048576x32 .f32) : S1048576.Idx → BitVec 32 :=
  argIdx reducer_argmin_f32_i32 q (iotaInDim S1048576x32 32 1) (constant S_ .f32 0x7F800000#32) (constantI S_ 32 0#32)
    reducesTo_S1048576x32_S1048576_d1 h_S_

/-- The same in the input's shape. -/
def near (q : FVec F S1048576x32 .f32) : S16384x64.Idx → BitVec 32 := shapeCast S16384x64 (rowNear q) shapeCasts_S1048576_S16384x64

/-- A negative index counted from the end of the grid. -/
def wrapped (k : S16384x64.Idx → BitVec 32) : S16384x64.Idx → BitVec 32 :=
  select (cmpi .slt k (broadcastInDim S16384x64 ![] bcast_S_S16384x64 (constantI S_ 32 0#32)))
    (addi k (broadcastInDim S16384x64 ![] bcast_S_S16384x64 (constantI S_ 32 32#32))) k

/-- The levels at these indices. -/
def picked (l : FVec F S32 .f32) (k : S16384x64.Idx → BitVec 32) : FVec F S16384x64 .f32 :=
  Host.gather gather_S32_S16384x64x1_S16384x64_n_0_n_n_0_2_1 l
    (broadcastInDim S16384x64x1 ![0, 1] bcast_S16384x64_S16384x64x1_0_1 (wrapped k))

variable (V : Valuation τ sig (Elt F))

theorem dist_v5 : after distOps V (Proc.devRef .tc main_v5) = sqDist (V (Proc.devRef .tc main_arg0)) (V (Proc.devRef .tc main_arg1)) := by
  after_reads_simp
  rfl

theorem dist_l : after distOps V (Proc.devRef .tc main_arg1) = V (Proc.devRef .tc main_arg1) := by
  after_reads_simp

theorem soft_v18 : after softOps V (Proc.devRef .tc main_v18) = softRow (V (Proc.devRef .tc main_v5)) := by
  after_reads_simp
  rfl

theorem soft_v5 : after softOps V (Proc.devRef .tc main_v5) = V (Proc.devRef .tc main_v5) := by
  after_reads_simp

theorem soft_l : after softOps V (Proc.devRef .tc main_arg1) = V (Proc.devRef .tc main_arg1) := by
  after_reads_simp

theorem mean_v23 : after meanOps V (Proc.devRef .tc main_v23) = softMean (V (Proc.devRef .tc main_arg1)) (V (Proc.devRef .tc main_v18)) := by
  after_reads_simp
  rfl

theorem mean_v5 : after meanOps V (Proc.devRef .tc main_v5) = V (Proc.devRef .tc main_v5) := by
  after_reads_simp

theorem mean_l : after meanOps V (Proc.devRef .tc main_arg1) = V (Proc.devRef .tc main_arg1) := by
  after_reads_simp

theorem near_v25 : after nearOps V (Proc.devRef .tc main_v25) = near (V (Proc.devRef .tc main_v5)) := by
  after_reads_simp
  simp only [StableHlo.TRef.ofBuf_toBuf]
  funext i
  change shapeCast S16384x64 (rowNear (V (Proc.devRef .tc main_v5))) shapeCasts_S1048576_S16384x64 i = _
  rfl

theorem near_v23 : after nearOps V (Proc.devRef .tc main_v23) = V (Proc.devRef .tc main_v23) := by
  after_reads_simp

theorem near_l : after nearOps V (Proc.devRef .tc main_arg1) = V (Proc.devRef .tc main_arg1) := by
  after_reads_simp

theorem pick_v25 : after pickOps V (Proc.devRef .tc main_v25) = V (Proc.devRef .tc main_v25) := by
  after_reads_simp

theorem pick_v32 : after pickOps V (Proc.devRef .tc main_v32) = picked (V (Proc.devRef .tc main_arg1)) (V (Proc.devRef .tc main_v25)) := by
  after_reads_simp
  rfl

theorem pick_v34 : after pickOps V (Proc.devRef .tc main_v34) =
    addf (V (Proc.devRef .tc main_v23)) (subf (picked (V (Proc.devRef .tc main_arg1)) (V (Proc.devRef .tc main_v25))) (V (Proc.devRef .tc main_v23))) := by
  after_reads_simp
  rfl

/-! ## The results -/

theorem refOps_append : after refOps V = after pickOps (after nearOps (after meanOps (after softOps (after distOps V)))) := by
  unfold refOps
  simp only [StableHlo.after_append]

theorem ref_v25 : after refOps V (Proc.devRef .tc main_v25) = near (sqDist (V (Proc.devRef .tc main_arg0)) (V (Proc.devRef .tc main_arg1))) := by
  rw [refOps_append, pick_v25, near_v25, mean_v5, soft_v5, dist_v5]

theorem ref_v32 : after refOps V (Proc.devRef .tc main_v32) = picked (V (Proc.devRef .tc main_arg1)) (near (sqDist (V (Proc.devRef .tc main_arg0)) (V (Proc.devRef .tc main_arg1)))) := by
  rw [refOps_append, pick_v32, near_v25, mean_v5, soft_v5, dist_v5, near_l, mean_l, soft_l, dist_l]

theorem ref_v34 : after refOps V (Proc.devRef .tc main_v34) =
    addf (softMean (V (Proc.devRef .tc main_arg1)) (softRow (sqDist (V (Proc.devRef .tc main_arg0)) (V (Proc.devRef .tc main_arg1)))))
      (subf (picked (V (Proc.devRef .tc main_arg1)) (near (sqDist (V (Proc.devRef .tc main_arg0)) (V (Proc.devRef .tc main_arg1)))))
        (softMean (V (Proc.devRef .tc main_arg1)) (softRow (sqDist (V (Proc.devRef .tc main_arg0)) (V (Proc.devRef .tc main_arg1)))))) := by
  rw [refOps_append, pick_v34, near_v25, near_v23, mean_v23, mean_v5, soft_v18, soft_v5, dist_v5, near_l, mean_l, soft_l, dist_l]

theorem ref_arg0 : after refOps V (Proc.devRef .tc main_arg0) = V (Proc.devRef .tc main_arg0) := by
  after_reads_simp

theorem ref_arg1 : after refOps V (Proc.devRef .tc main_arg1) = V (Proc.devRef .tc main_arg1) := by
  after_reads_simp

end Cert.Proof.ReferenceIdeal
-- ==== Proof.Grid.lean ====
/-
  The grid's arithmetic. Over the reals, the place of an element on the grid less a half, clipped and rounded up, is the
  first index at which its squared distance to a level is least; over the extended reals the kernel's two scalar formulas
  give that index and its level.
-/
module

public import proofs.«01_k».proof.Proof.RefRun
public import Idealize.ShloMosaic.PureOps.Ideal
public import Idealize.ShloMosaic.Lib.IdealHost

@[expose] public section

noncomputable section

namespace Cert.Proof.Grid

open Idealize.ShloMosaic
open Cert.Proof.Quant

/-! ## Over the reals -/

/-- The place less a half, clipped to the grid's ends. -/
def place (lo st v : ℝ) : ℝ := min (max ((v - lo) / st - 1 / 2) 0) 31

/-- The index picked. -/
def pick (lo st v : ℝ) : ℕ := ⌈place lo st v⌉₊

/-- Level `i`. -/
def level (lo st : ℝ) (i : ℕ) : ℝ := lo + i * st

theorem place_nonneg (lo st v : ℝ) : 0 ≤ place lo st v := le_min (le_max_right _ _) (by norm_num)

theorem place_le (lo st v : ℝ) : place lo st v ≤ 31 := min_le_right _ _

theorem pick_le (lo st v : ℝ) : pick lo st v ≤ 31 := Nat.ceil_le.mpr (by exact_mod_cast place_le lo st v)

/-- The squared distance to a level, in steps. -/
theorem sq_level {st : ℝ} (h : st ≠ 0) (lo v : ℝ) (i : ℕ) : (v - level lo st i) ^ 2 = st ^ 2 * ((v - lo) / st - i) ^ 2 := by
  unfold level
  field_simp
  ring

/-- Below the index picked every level is farther. -/
theorem farther {lo st v : ℝ} (h : st ≠ 0) {i : ℕ} (hi : i < pick lo st v) :
    (v - level lo st (pick lo st v)) ^ 2 < (v - level lo st i) ^ 2 := by
  rw [sq_level h, sq_level h]
  have hs : 0 < st ^ 2 := by positivity
  refine mul_lt_mul_of_pos_left ?_ hs
  have hc : (i : ℝ) < place lo st v := Nat.lt_ceil.mp hi
  have hi0 : (0 : ℝ) ≤ i := Nat.cast_nonneg i
  have hm : place lo st v ≤ (v - lo) / st - 1 / 2 := by
    refine (min_le_left _ _).trans (max_le le_rfl ?_)
    by_contra hn
    have : place lo st v ≤ 0 := (min_le_left _ _).trans (max_le (le_of_lt (not_le.mp hn)) le_rfl)
    linarith
  have hk : ((pick lo st v : ℕ) : ℝ) < place lo st v + 1 := Nat.ceil_lt_add_one (place_nonneg lo st v)
  have hki : (i : ℝ) + 1 ≤ (pick lo st v : ℕ) := by exact_mod_cast hi
  nlinarith

/-- Above it no level is nearer. -/
theorem no_nearer {lo st v : ℝ} (h : st ≠ 0) {i : ℕ} (hi : pick lo st v < i) (h31 : i ≤ 31) :
    (v - level lo st (pick lo st v)) ^ 2 ≤ (v - level lo st i) ^ 2 := by
  rw [sq_level h, sq_level h]
  have hs : 0 ≤ st ^ 2 := by positivity
  refine mul_le_mul_of_nonneg_left ?_ hs
  have hk : place lo st v ≤ (pick lo st v : ℕ) := Nat.le_ceil _
  have hki : ((pick lo st v : ℕ) : ℝ) + 1 ≤ i := by exact_mod_cast hi
  have h31' : (i : ℝ) ≤ 31 := by exact_mod_cast h31
  have hm : (v - lo) / st - 1 / 2 ≤ place lo st v := by
    refine le_min (le_max_left _ _) ?_
    by_contra hn
    have : (31 : ℝ) ≤ place lo st v := le_min (le_trans (le_of_lt (not_le.mp hn)) (le_max_left _ _)) le_rfl
    linarith
  nlinarith

/-! ## Over the extended reals -/

theorem half_word : Ideal.ofBits .f32 0x3F000000#32 = ((1 / 2 : ℝ) : EReal) := by
  simp [Ideal.ofBits, Ideal.ieee]
  rw [← EReal.coe_mul]
  norm_num

theorem last_word : Ideal.ofBits .f32 0x41F80000#32 = ((31 : ℝ) : EReal) := by
  simp [Ideal.ofBits, Ideal.ieee]
  rw [← EReal.coe_mul]
  norm_num

/-- The step's inverse. -/
theorem div_one {st : ℝ} (h : st ≠ 0) : Ideal.div 1 (st : EReal) = ((1 / st : ℝ) : EReal) := by
  have h' : (st : EReal) ≠ 0 := by exact_mod_cast h
  unfold Ideal.div
  rw [if_neg h', one_mul, one_div, EReal.coe_inv]

theorem clipped_eq (lo st v : ℝ) :
    clipped (F := Ideal) (lo : EReal) ((1 / st : ℝ) : EReal) (v : EReal) = ((place lo st v : ℝ) : EReal) := by
  show min (max (((v : EReal) - lo) * ((1 / st : ℝ) : EReal) - Ideal.ofBits .f32 0x3F000000#32) (Ideal.ofBits .f32 0x00000000#32))
      (Ideal.ofBits .f32 0x41F80000#32) = _
  rw [half_word, last_word, Ideal.ofBits_zero_f32, ← EReal.coe_sub, ← EReal.coe_mul, ← EReal.coe_sub, ← EReal.coe_zero,
    ← EReal.coe_strictMono.monotone.map_max, ← EReal.coe_strictMono.monotone.map_min, mul_one_div]
  rfl

/-- The clipped place rounded towards zero is its floor. -/
theorem floorWord_eq (lo st v : ℝ) :
    floorWord (F := Ideal) (lo : EReal) ((1 / st : ℝ) : EReal) (v : EReal) = BitVec.ofNat 32 ⌊place lo st v⌋₊ := by
  have h0 := place_nonneg lo st v
  have hf : ⌊place lo st v⌋₊ ≤ 31 := by
    have := Nat.floor_le_floor (place_le lo st v)
    simpa using this
  unfold floorWord
  rw [clipped_eq]
  show BitVec.ofInt 32 (max (-(2 ^ (32 - 1) : ℕ)) (min ((2 ^ (32 - 1) : ℕ) - 1) (if 0 ≤ place lo st v then ⌊place lo st v⌋ else ⌈place lo st v⌉))) = _
  rw [if_pos h0, ← Int.natCast_floor_eq_floor h0, min_eq_right (by norm_num; omega), max_eq_right (by norm_num), BitVec.ofInt_natCast]

theorem toInt_small {n : ℕ} (h : n ≤ 32) : (BitVec.ofNat 32 n).toInt = n := by
  have hn : (BitVec.ofNat 32 n).toNat = n := by rw [BitVec.toNat_ofNat, Nat.mod_eq_of_lt (by omega)]
  rw [BitVec.toInt_eq_toNat_of_lt (by omega), hn]

/-- The kernel's index. -/
theorem symOf_eq (lo st v : ℝ) :
    symOf (F := Ideal) (lo : EReal) ((1 / st : ℝ) : EReal) (v : EReal) = BitVec.ofNat 32 (pick lo st v) := by
  have h0 := place_nonneg lo st v
  have hf : ⌊place lo st v⌋₊ ≤ 31 := by
    have := Nat.floor_le_floor (place_le lo st v)
    simpa using this
  unfold symOf
  rw [floorWord_eq, clipped_eq]
  have hs : FloatOps.sitofp (F := Ideal) .f32 (BitVec.ofNat 32 ⌊place lo st v⌋₊) = (((⌊place lo st v⌋₊ : ℕ) : ℝ) : EReal) := by
    show (((BitVec.ofNat 32 ⌊place lo st v⌋₊).toInt : ℝ) : EReal) = _
    rw [toInt_small (by omega), Int.cast_natCast]
  rw [hs]
  have hcmp : FloatOps.cmpf (F := Ideal) (φ := .f32) .ogt ((place lo st v : ℝ) : EReal) (((⌊place lo st v⌋₊ : ℕ) : ℝ) : EReal)
      = BitVec.ofBool (decide (((⌊place lo st v⌋₊ : ℕ) : ℝ) < place lo st v)) := by
    show BitVec.ofBool (decide ((((⌊place lo st v⌋₊ : ℕ) : ℝ) : EReal) < ((place lo st v : ℝ) : EReal))) = _
    simp only [EReal.coe_lt_coe_iff]
  rw [hcmp]
  unfold pick Scalar.select
  by_cases hlt : ((⌊place lo st v⌋₊ : ℕ) : ℝ) < place lo st v
  · have hc : ⌈place lo st v⌉₊ = ⌊place lo st v⌋₊ + 1 := by
      refine le_antisymm (Nat.ceil_le_floor_add_one _) (Nat.succ_le_of_lt (Nat.lt_ceil.mpr hlt))
    simp [hlt, hc, IntOp.addi, BitVec.ofNat_add]
  · have he : place lo st v = (⌊place lo st v⌋₊ : ℕ) := le_antisymm (not_lt.mp hlt) (Nat.floor_le h0)
    have hc : ⌈place lo st v⌉₊ = ⌊place lo st v⌋₊ := by
      conv_lhs => rw [he]
      exact Nat.ceil_natCast _
    simp [hlt, hc]

/-- The kernel's level. -/
theorem featOf_eq (lo st v : ℝ) :
    featOf (F := Ideal) (lo : EReal) (st : EReal) ((1 / st : ℝ) : EReal) (v : EReal) = ((level lo st (pick lo st v) : ℝ) : EReal) := by
  unfold featOf
  rw [symOf_eq]
  show (lo : EReal) + (((BitVec.ofNat 32 (pick lo st v)).toInt : ℝ) : EReal) * (st : EReal) = _
  rw [toInt_small (by have := pick_le lo st v; omega), Int.cast_natCast, ← EReal.coe_mul, ← EReal.coe_add]
  rfl

end Cert.Proof.Grid

end
-- ==== Proof.Weights.lean ====
/-
  The reference's soft mean over the extended reals. Where the element and the levels are real, every weight of the softmax
  is real, so the mean is, and moving the mean onto the nearest level gives that level back.
-/
module

public import proofs.«01_k».proof.Proof.Grid
public import Idealize.ShloMosaic.PureOps.Ideal.Laws
public import Idealize.ShloMosaic.Lib.ValueIdxCore
public import Idealize.ShloMosaic.Lib.Pipeline.Value

@[expose] public section

noncomputable section

namespace Cert.Proof.ReferenceIdeal

open Cert.ReferenceIdeal Cert.ReferenceIdeal.Gen

open Idealize.ShloMosaic
open Idealize.ShloMosaic.ValueIdx (ix1 ix2)
open Cert.Proof.Grid (level)

/-! ## Real extended reals -/

/-- A real number among the extended reals. -/
def IsReal (y : EReal) : Prop := ∃ r : ℝ, y = (r : EReal)

theorem isReal_coe (r : ℝ) : IsReal (r : EReal) := ⟨r, rfl⟩

theorem isReal_of_ne {y : EReal} (ht : y ≠ ⊤) (hb : y ≠ ⊥) : IsReal y := ⟨y.toReal, (EReal.coe_toReal ht hb).symm⟩

theorem IsReal.ne_top {y : EReal} (h : IsReal y) : y ≠ ⊤ := by obtain ⟨r, rfl⟩ := h; exact EReal.coe_ne_top r

theorem IsReal.ne_bot {y : EReal} (h : IsReal y) : y ≠ ⊥ := by obtain ⟨r, rfl⟩ := h; exact EReal.coe_ne_bot r

theorem IsReal.add {y z : EReal} (hy : IsReal y) (hz : IsReal z) : IsReal (y + z) := by
  obtain ⟨a, rfl⟩ := hy
  obtain ⟨b, rfl⟩ := hz
  exact ⟨a + b, (EReal.coe_add a b).symm⟩

theorem IsReal.sub {y z : EReal} (hy : IsReal y) (hz : IsReal z) : IsReal (y - z) := by
  obtain ⟨a, rfl⟩ := hy
  obtain ⟨b, rfl⟩ := hz
  exact ⟨a - b, (EReal.coe_sub a b).symm⟩

theorem IsReal.mul {y z : EReal} (hy : IsReal y) (hz : IsReal z) : IsReal (y * z) := by
  obtain ⟨a, rfl⟩ := hy
  obtain ⟨b, rfl⟩ := hz
  exact ⟨a * b, (EReal.coe_mul a b).symm⟩

theorem IsReal.div {y z : EReal} (hy : IsReal y) (hz : IsReal z) (h0 : z ≠ 0) : IsReal (Ideal.div y z) := by
  obtain ⟨a, rfl⟩ := hy
  obtain ⟨b, rfl⟩ := hz
  refine ⟨a * b⁻¹, ?_⟩
  unfold Ideal.div
  rw [if_neg h0, EReal.coe_mul, EReal.coe_inv]

/-- A real moved by the difference to another is the other. -/
theorem move {y z : EReal} (hy : IsReal y) (hz : IsReal z) : y + (z - y) = z := by
  obtain ⟨a, rfl⟩ := hy
  obtain ⟨b, rfl⟩ := hz
  rw [← EReal.coe_sub, ← EReal.coe_add, add_sub_cancel]

/-! ## Reductions of reals -/

section Reductions

variable {s t u : Shape} {axes : List (Fin s.rank)} (h : s.ReducesTo axes t)

theorem sum_real {z : s.Idx → EReal} {init : EReal} (hi : IsReal init) (hz : ∀ i, IsReal (z i)) (j : t.Idx) :
    IsReal (Ideal.hostReduceAdd h z init j) := by
  unfold Ideal.hostReduceAdd
  exact hi.add (Finset.sum_induction _ IsReal (fun _ _ => IsReal.add) ⟨0, EReal.coe_zero.symm⟩ fun i _ => hz i)

theorem sum_pos {z : s.Idx → EReal} (hz : ∀ i, 0 < z i) (i : s.Idx) : 0 < Ideal.hostReduceAdd h z 0 (h.drop i) := by
  unfold Ideal.hostReduceAdd
  rw [zero_add]
  exact lt_of_lt_of_le (hz i) (Finset.single_le_sum (f := z) (fun k _ => (hz k).le) (Finset.mem_filter.mpr ⟨Finset.mem_univ i, rfl⟩))

theorem max_real (hu : 0 < u.numel) {z : FVec Ideal s .f32} {init : FVec Ideal u .f32} (hi : init (Shape.Idx.first hu) = ⊥)
    (hz : ∀ i, IsReal (z i)) (i : s.Idx) : IsReal (Host.reduce (FloatOps.maximumf (F := Ideal) (φ := .f32)) z init h hu (h.drop i)) := by
  change IsReal (Host.reduce (max : EReal → EReal → EReal) z init h hu (h.drop i))
  rw [Host.reduce_eq_fold, hi]
  refine isReal_of_ne (ne_of_lt ?_) (ne_of_gt ?_)
  · exact (Finset.fold_max_lt _).mpr ⟨bot_lt_top, fun k _ => lt_top_iff_ne_top.mpr (hz k).ne_top⟩
  · exact (Finset.lt_fold_max _).mpr (Or.inr ⟨i, Finset.mem_filter.mpr ⟨Finset.mem_univ i, rfl⟩, bot_lt_iff_ne_bot.mpr (hz i).ne_bot⟩)

theorem maximumf_apply (y z : FVec Ideal s .f32) (i : s.Idx) : maximumf y z i = max (y i) (z i) := rfl

theorem mulf_apply (y z : FVec Ideal s .f32) (i : s.Idx) : mulf y z i = y i * z i := rfl

theorem subf_apply (y z : FVec Ideal s .f32) (i : s.Idx) : subf y z i = y i - z i := rfl

theorem exp_apply (y : FVec Ideal s .f32) (i : s.Idx) : Host.exp y i = Ideal.exp (y i) := rfl

end Reductions

/-! ## Rows -/

/-- An entry's row. -/
def rowOf (i : S1048576x32.Idx) : Fin 1048576 := i 0

/-- An entry's column. -/
def colOf (i : S1048576x32.Idx) : Fin 32 := i 1

theorem drop_row (i : S1048576x32.Idx) : reducesTo_S1048576x32_S1048576_d1.drop i = ix1 (rowOf i) := by
  funext a
  match a with
  | ⟨0, _⟩ => exact Fin.ext (Shape.ReducesTo.drop_apply_val_of_eq reducesTo_S1048576x32_S1048576_d1 i 0 0)

theorem drop_entry (n : Fin 1048576) (b : Fin 32) : reducesTo_S1048576x32_S1048576_d1.drop (ix2 n b : S1048576x32.Idx) = ix1 n := drop_row _

theorem alongRow_apply (u : FVec Ideal S1048576 .f32) (i : S1048576x32.Idx) : alongRow u i = u (ix1 (rowOf i)) := by
  unfold alongRow
  refine (broadcastInDim_apply _ _ _ i (ix2 (rowOf i) (0 : Fin 1) : S1048576x1.Idx) (fun a => by match a with | ⟨0, _⟩ => rfl | ⟨1, _⟩ => rfl)).trans ?_
  exact broadcastInDim_apply _ _ _ _ _ (fun a => by match a with | ⟨0, _⟩ => rfl)

theorem rowSum_eq (z : FVec Ideal S1048576x32 .f32) (j : S1048576.Idx) :
    rowSum z j = Ideal.hostReduceAdd reducesTo_S1048576x32_S1048576_d1 z 0 j := by
  unfold rowSum
  rw [ValueIdx.hostReduceAdd_apply]
  exact congrArg (fun y => Ideal.hostReduceAdd reducesTo_S1048576x32_S1048576_d1 z y j) Ideal.ofBits_zero_f32

theorem rowSum_real {z : FVec Ideal S1048576x32 .f32} (hz : ∀ i, IsReal (z i)) (j : S1048576.Idx) : IsReal (rowSum z j) := by
  rw [rowSum_eq]
  exact sum_real _ ⟨0, EReal.coe_zero.symm⟩ hz j

theorem bot_word : Ideal.ofBits .f32 0xFF800000#32 = ⊥ := by simp [Ideal.ofBits, Ideal.ieee]

theorem rowMax_real {z : FVec Ideal S1048576x32 .f32} (hz : ∀ i, IsReal (z i)) (n : Fin 1048576) : IsReal (rowMax z (ix1 n)) := by
  have hr := max_real reducesTo_S1048576x32_S1048576_d1 h_S_ (init := constant S_ .f32 0xFF800000#32) bot_word hz (ix2 n (0 : Fin 32))
  rw [drop_entry] at hr
  unfold rowMax
  rw [maximumf_apply, ValueIdx.broadcastInDim_scalar_apply,
    show (constant S_ .f32 0xFF800000#32 : FVec Ideal S_ .f32) ValueIdx.ix0 = ⊥ from bot_word, max_eq_right bot_le]
  exact hr

/-! ## The softmax -/

theorem fifth_real : IsReal (Ideal.ofBits .f32 0xBE4CCCCD#32) := by
  refine ⟨-(13421773 / 67108864), ?_⟩
  simp [Ideal.ofBits, Ideal.ieee, -EReal.coe_mul, -EReal.coe_neg]
  norm_num

theorem scaled_real {q : FVec Ideal S1048576x32 .f32} (hq : ∀ i, IsReal (q i)) (i : S1048576x32.Idx) : IsReal (scaled q i) := by
  unfold scaled
  rw [mulf_apply, ValueIdx.broadcastInDim_scalar_apply]
  exact IsReal.mul fifth_real (hq i)

theorem expRow_pos {z : FVec Ideal S1048576x32 .f32} (hz : ∀ i, IsReal (z i)) (i : S1048576x32.Idx) :
    ∃ r : ℝ, 0 < r ∧ expRow z i = (r : EReal) := by
  obtain ⟨s, hs⟩ := (hz i).sub (rowMax_real hz (rowOf i))
  refine ⟨Real.exp s, Real.exp_pos s, ?_⟩
  unfold expRow
  rw [exp_apply, subf_apply, alongRow_apply, hs]
  rfl

theorem expRow_real {z : FVec Ideal S1048576x32 .f32} (hz : ∀ i, IsReal (z i)) (i : S1048576x32.Idx) : IsReal (expRow z i) := by
  obtain ⟨r, _, h⟩ := expRow_pos hz i
  exact ⟨r, h⟩

theorem rowSum_ne_zero {z : FVec Ideal S1048576x32 .f32} (hz : ∀ i, IsReal (z i)) (n : Fin 1048576) : rowSum (expRow z) (ix1 n) ≠ 0 := by
  rw [rowSum_eq, ← drop_entry n 0]
  refine ne_of_gt (sum_pos _ (fun i => ?_) _)
  obtain ⟨r, hr, h⟩ := expRow_pos hz i
  rw [h]
  exact_mod_cast hr

theorem softRow_real {q : FVec Ideal S1048576x32 .f32} (hq : ∀ i, IsReal (q i)) (i : S1048576x32.Idx) : IsReal (softRow q i) := by
  unfold softRow
  rw [ValueIdx.hostDivf_apply, alongRow_apply]
  exact (expRow_real (scaled_real hq) i).div (rowSum_real (expRow_real (scaled_real hq)) _) (rowSum_ne_zero (scaled_real hq) _)

theorem softMean_real {l : FVec Ideal S32 .f32} {w : FVec Ideal S1048576x32 .f32} (hl : ∀ b, IsReal (l b)) (hw : ∀ i, IsReal (w i))
    (j : S16384x64.Idx) : IsReal (softMean l w j) := by
  unfold softMean shapeCast
  refine rowSum_real (fun i => ?_) _
  rw [mulf_apply]
  exact IsReal.mul (hl _) (hw i)

/-! ## The distances -/

/-- The element a row is for. -/
def rowIdx (n : Fin 1048576) : S16384x64.Idx := Shape.reshapeEquiv shapeCasts_S16384x64_S1048576x1 (ix2 n (0 : Fin 1) : S1048576x1.Idx)

theorem sqDist_apply (x : FVec Ideal S16384x64 .f32) (l : FVec Ideal S32 .f32) (i : S1048576x32.Idx) :
    sqDist x l i = (x (rowIdx (rowOf i)) - l (ix1 (colOf i))) * (x (rowIdx (rowOf i)) - l (ix1 (colOf i))) := by
  have hx : broadcastInDim S1048576x32 ![0, 1] bcast_S1048576x1_S1048576x32_0_1 (shapeCast S1048576x1 x shapeCasts_S16384x64_S1048576x1) i
      = x (rowIdx (rowOf i)) :=
    broadcastInDim_apply _ _ _ i (ix2 (rowOf i) (0 : Fin 1) : S1048576x1.Idx) (fun a => by match a with | ⟨0, _⟩ => rfl | ⟨1, _⟩ => rfl)
  have hl : broadcastInDim S1048576x32 ![0, 1] bcast_S1x32_S1048576x32_0_1 (broadcastInDim S1x32 ![1] bcast_S32_S1x32_1 l) i
      = l (ix1 (colOf i)) :=
    (broadcastInDim_apply _ _ _ i (ix2 (0 : Fin 1) (colOf i) : S1x32.Idx) (fun a => by match a with | ⟨0, _⟩ => rfl | ⟨1, _⟩ => rfl)).trans
      (broadcastInDim_apply _ _ _ _ _ (fun a => by match a with | ⟨0, _⟩ => rfl))
  unfold sqDist
  rw [mulf_apply, subf_apply, hx, hl]

theorem sqDist_real {x : FVec Ideal S16384x64 .f32} {l : FVec Ideal S32 .f32} (hx : ∀ j, IsReal (x j)) (hl : ∀ b, IsReal (l b))
    (i : S1048576x32.Idx) : IsReal (sqDist x l i) := by
  rw [sqDist_apply]
  exact ((hx _).sub (hl _)).mul ((hx _).sub (hl _))

end Cert.Proof.ReferenceIdeal

end
-- ==== Proof.Nearest.lean ====
/-
  The reference's index over the extended reals. The reducer of its minimum keeps the lesser pair, value first and index
  second, so in any order of the fold the pair below all the others is what is left: the first of a row's least distances.
-/
module

public import proofs.«01_k».proof.Proof.Weights

@[expose] public section

noncomputable section

namespace Cert.Proof.ReferenceIdeal

open Cert.ReferenceIdeal Cert.ReferenceIdeal.Gen

open Idealize.ShloMosaic
open Idealize.ShloMosaic.ValueIdx (ix1 ix2)
open Cert.Proof.Grid (level pick)

/-! ## A fold with an absorbing member -/

theorem foldl_keeps {α : Type} {f : α → α → α} {P : α → Prop} {m : α} (hl : ∀ a, P a → f m a = m) :
    ∀ L : List α, (∀ a ∈ L, P a) → L.foldl f m = m
  | [], _ => rfl
  | a :: L, hL => by
    rw [List.foldl_cons, hl a (hL a List.mem_cons_self)]
    exact foldl_keeps hl L fun b hb => hL b (List.mem_cons_of_mem _ hb)

theorem foldl_absorbs {α : Type} {f : α → α → α} {P : α → Prop} {m : α} (hf : ∀ a b, P a → P b → P (f a b))
    (hl : ∀ a, P a → f m a = m) (hr : ∀ a, P a → f a m = m) :
    ∀ (L : List α) (r : α), P r → (∀ a ∈ L, P a) → m ∈ L → L.foldl f r = m
  | [], _, _, _, hm => absurd hm List.not_mem_nil
  | a :: L, r, hr0, hL, hm => by
    rw [List.foldl_cons]
    rcases List.mem_cons.mp hm with rfl | hm
    · rw [hr r hr0]
      exact foldl_keeps hl L fun b hb => hL b (List.mem_cons_of_mem _ hb)
    · exact foldl_absorbs hf hl hr L _ (hf r a hr0 (hL a List.mem_cons_self)) (fun b hb => hL b (List.mem_cons_of_mem _ hb)) hm

theorem reduce2_absorbs {s t u : Shape} {axes : List (Fin s.rank)} {α β : Type} {f : α × β → α × β → α × β} {P : α × β → Prop}
    {x : s.Idx → α} {y : s.Idx → β} {ix : u.Idx → α} {iy : u.Idx → β} (h : s.ReducesTo axes t) (hu : 0 < u.numel) (i : s.Idx)
    (hf : ∀ a b, P a → P b → P (f a b)) (hl : ∀ a, P a → f (x i, y i) a = (x i, y i)) (hr : ∀ a, P a → f a (x i, y i) = (x i, y i))
    (h0 : P (ix (Shape.Idx.first hu), iy (Shape.Idx.first hu))) (hP : ∀ k, h.drop k = h.drop i → P (x k, y k)) :
    Host.reduce2 f x y ix iy h hu (h.drop i) = (x i, y i) := by
  unfold Host.reduce2
  rw [← List.foldl_map (f := fun n => (x (s.rowMajor.symm n), y (s.rowMajor.symm n))) (g := f)]
  refine foldl_absorbs hf hl hr _ _ h0 (fun a ha => ?_) ?_
  · obtain ⟨n, hn, rfl⟩ := List.mem_map.mp ha
    exact hP _ (by simpa using (List.mem_filter.mp hn).2)
  · refine List.mem_map.mpr ⟨s.rowMajor i, List.mem_filter.mpr ⟨List.mem_finRange _, ?_⟩, ?_⟩
    · simp
    · simp

/-! ## The reducer -/

/-- `a` is not below (d, k). -/
def NotBelow (d : EReal) (k : BitVec 32) (a : EReal × BitVec 32) : Prop := d < a.1 ∨ (a.1 = d ∧ k.toInt ≤ a.2.toInt)

/-- The reducer with its comparisons read. -/
theorem reducer_eq (a b : EReal × BitVec 32) :
    reducer_argmin_f32_i32 (F := Ideal) a b =
      (if a.1 < b.1 then a.1 else b.1, if a.1 < b.1 ∨ (a.1 = b.1 ∧ a.2.toInt < b.2.toInt) then a.2 else b.2) := by
  have h1 : FloatOps.cmpf (F := Ideal) (φ := .f32) .olt a.1 b.1 = BitVec.ofBool (decide (a.1 < b.1)) := rfl
  have h2 : FloatOps.cmpf (F := Ideal) (φ := .f32) .une a.1 a.1 = 0#1 := by
    show BitVec.ofBool (decide (a.1 ≠ a.1)) = _
    simp
  have h3 : FloatOps.cmpf (F := Ideal) (φ := .f32) .oeq a.1 b.1 = BitVec.ofBool (decide (a.1 = b.1)) := rfl
  have h4 : IntOp.cmpi .slt a.2 b.2 = BitVec.ofBool (decide (a.2.toInt < b.2.toInt)) := rfl
  unfold reducer_argmin_f32_i32
  simp only [h1, h2, h3, h4]
  by_cases c1 : a.1 < b.1 <;> by_cases c2 : a.1 = b.1 <;> by_cases c3 : a.2.toInt < b.2.toInt <;>
    simp [c1, c2, c3, IntOp.ori, IntOp.andi, Scalar.select]

theorem reducer_mem (a b : EReal × BitVec 32) :
    reducer_argmin_f32_i32 (F := Ideal) a b = a ∨ reducer_argmin_f32_i32 (F := Ideal) a b = b := by
  rw [reducer_eq]
  obtain ⟨a1, a2⟩ := a
  obtain ⟨b1, b2⟩ := b
  dsimp only
  by_cases c1 : a1 < b1
  · left; simp [c1]
  · by_cases c2 : a1 = b1 ∧ a2.toInt < b2.toInt
    · left; simp [c2.1, c2.2]
    · right; simp only [c1, c2, or_self, if_false]

theorem reducer_left {d : EReal} {k : BitVec 32} {a : EReal × BitVec 32} (h : NotBelow d k a) :
    reducer_argmin_f32_i32 (F := Ideal) (d, k) a = (d, k) := by
  rw [reducer_eq]
  obtain ⟨a1, a2⟩ := a
  rcases h with h | ⟨rfl, h⟩
  · have h' : d < a1 := h
    simp [h']
  · dsimp only at h ⊢
    by_cases c : k.toInt < a2.toInt
    · simp [c]
    · have : k = a2 := BitVec.eq_of_toInt_eq (le_antisymm h (not_lt.mp c))
      simp [this]

theorem reducer_right {d : EReal} {k : BitVec 32} {a : EReal × BitVec 32} (h : NotBelow d k a) :
    reducer_argmin_f32_i32 (F := Ideal) a (d, k) = (d, k) := by
  rw [reducer_eq]
  obtain ⟨a1, a2⟩ := a
  rcases h with h | ⟨rfl, h⟩
  · have h' : d < a1 := h
    simp [h'.le.not_gt, h'.ne']
  · dsimp only at h ⊢
    simp [not_lt.mpr h]

theorem argReduce_least {s t u : Shape} {axes : List (Fin s.rank)} (h : s.ReducesTo axes t) (hu : 0 < u.numel) (q : FVec Ideal s .f32)
    (y : s.Idx → BitVec 32) (ix : FVec Ideal u .f32) (iy : u.Idx → BitVec 32) (i : s.Idx) (h0 : ix (Shape.Idx.first hu) = ⊤)
    (htop : q i ≠ ⊤) (hP : ∀ k, h.drop k = h.drop i → NotBelow (q i) (y i) (q k, y k)) :
    argIdx (reducer_argmin_f32_i32 (F := Ideal)) q y ix iy h hu (h.drop i) = y i := by
  unfold argIdx
  rw [Ideal.argReduce_eq_reduce2]
  refine congrArg Prod.snd (reduce2_absorbs (P := NotBelow (q i) (y i)) h hu i ?_ (fun a ha => reducer_left ha) (fun a ha => reducer_right ha) ?_ hP)
  · intro a b ha hb
    rcases reducer_mem a b with e | e <;> rw [e] <;> assumption
  · left
    rw [h0]
    exact lt_top_iff_ne_top.mpr htop

theorem top_word : Ideal.ofBits .f32 0x7F800000#32 = ⊤ := by simp [Ideal.ofBits, Ideal.ieee]

theorem eq_entry {k i : S1048576x32.Idx} (hk : reducesTo_S1048576x32_S1048576_d1.drop k = reducesTo_S1048576x32_S1048576_d1.drop i) :
    k = ix2 (rowOf i) (colOf k) := by
  rw [drop_row, drop_row] at hk
  have hr : rowOf k = rowOf i := congrFun hk 0
  rw [← hr]
  exact ValueIdx.eq_ix2 k

/-- What the minimum leaves for an entry's row, where no entry of the row is below that entry. -/
theorem rowNear_eq (q : FVec Ideal S1048576x32 .f32) (i : S1048576x32.Idx) (htop : q i ≠ ⊤)
    (h : ∀ b : Fin 32, NotBelow (q i) (BitVec.ofNat 32 (colOf i).val) (q (ix2 (rowOf i) b), BitVec.ofNat 32 b.val)) :
    rowNear q (ix1 (rowOf i)) = BitVec.ofNat 32 (colOf i).val := by
  have hy : ∀ k : S1048576x32.Idx, iotaInDim S1048576x32 32 1 k = BitVec.ofNat 32 (colOf k).val := fun _ => rfl
  have hP : ∀ k : S1048576x32.Idx, reducesTo_S1048576x32_S1048576_d1.drop k = reducesTo_S1048576x32_S1048576_d1.drop i →
      NotBelow (q i) (iotaInDim S1048576x32 32 1 i) (q k, iotaInDim S1048576x32 32 1 k) := fun k hk => by
    have hb := h (colOf k)
    rw [← eq_entry hk] at hb
    rw [hy, hy]
    exact hb
  have hl := argReduce_least reducesTo_S1048576x32_S1048576_d1 h_S_ q (iotaInDim S1048576x32 32 1) (constant S_ .f32 0x7F800000#32)
    (constantI S_ 32 0#32) i top_word htop hP
  rw [hy, drop_row] at hl
  exact hl

/-! ## The index read back from the grid -/

theorem wrapped_eq (k : S16384x64.Idx → BitVec 32) (j : S16384x64.Idx) (h : 0 ≤ (k j).toInt) : wrapped k j = k j := by
  have e : broadcastInDim S16384x64 ![] bcast_S_S16384x64 (constantI S_ 32 0#32) j = 0#32 := ValueIdx.broadcastInDim_scalar_apply _ _ _
  have c : cmpi .slt k (broadcastInDim S16384x64 ![] bcast_S_S16384x64 (constantI S_ 32 0#32)) j = 0#1 := by
    show BitVec.ofBool (decide ((k j).toInt < (broadcastInDim S16384x64 ![] bcast_S_S16384x64 (constantI S_ 32 0#32) j).toInt)) = _
    rw [e, decide_eq_false (by simpa using h)]
    rfl
  unfold wrapped
  show Scalar.select _ _ _ = _
  rw [c]
  rfl

theorem picked_eq (l : FVec Ideal S32 .f32) (k : S16384x64.Idx → BitVec 32) (j : S16384x64.Idx) (b : Fin 32) (h : k j = BitVec.ofNat 32 b.val) :
    picked l k j = l (ix1 b) := by
  have hb : (BitVec.ofNat 32 b.val).toInt = b.val := Grid.toInt_small (by omega)
  have hw : wrapped k j = BitVec.ofNat 32 b.val := by rw [wrapped_eq k j (by rw [h, hb]; omega), h]
  have hi : broadcastInDim S16384x64x1 ![0, 1] bcast_S16384x64_S16384x64x1_0_1 (wrapped k) (ValueIdx.takeIdx j) = wrapped k j :=
    broadcastInDim_apply _ _ _ _ j (fun a => by match a with | ⟨0, _⟩ => rfl | ⟨1, _⟩ => rfl)
  unfold picked
  refine (ValueIdx.gather_take_apply (N := 32) (R := 16384) (C := 64) (by norm_num) gather_S32_S16384x64x1_S16384x64_n_0_n_n_0_2_1_wf l _ j).trans ?_
  refine congrArg l ?_
  refine congrArg ix1 (Fin.ext ?_)
  show min (broadcastInDim S16384x64x1 ![0, 1] bcast_S16384x64_S16384x64x1_0_1 (wrapped k) (ValueIdx.takeIdx j)).toInt.toNat (32 - 1) = b.val
  rw [hi, hw, hb]
  omega

end Cert.Proof.ReferenceIdeal

end
-- ==== Proof.RefValue.lean ====
/-
  What the reference returns over the extended reals, where the input is real and the levels are a grid of equal real steps:
  at every element the index `pick` and, twice, that index's level.
-/
module

public import proofs.«01_k».proof.Proof.Nearest

@[expose] public section

noncomputable section

namespace Cert.Proof.ReferenceIdeal

open Cert.ReferenceIdeal Cert.ReferenceIdeal.Gen

open Idealize.ShloMosaic
open Idealize.ShloMosaic.ValueIdx (ix1 ix2)
open Cert.Proof.Grid (level pick)

/-- The flattened place of an element. -/
def flat (j : S16384x64.Idx) : Fin 1048576 := (Shape.reshapeEquiv shapeCasts_S1048576_S16384x64 j : S1048576.Idx) 0

theorem flat_idx (j : S16384x64.Idx) : (Shape.reshapeEquiv shapeCasts_S1048576_S16384x64 j : S1048576.Idx) = ix1 (flat j) :=
  ValueIdx.eq_ix1 (n := 1048576) _

/-- A row is the row of the element at its place. -/
theorem rowIdx_flat (j : S16384x64.Idx) : rowIdx (flat j) = j := by
  unfold rowIdx
  refine Shape.reshapeEquiv_eq_of_rowMajor _ ?_
  have h := Shape.rowMajor_reshapeEquiv shapeCasts_S1048576_S16384x64 j
  rw [flat_idx, Shape.rowMajor_val_one] at h
  rw [← h, Shape.rowMajor_val_two]
  show (flat j).val = (flat j).val * 1 + 0
  omega

theorem cast_flat {α : Type} (f : S1048576.Idx → α) (j : S16384x64.Idx) :
    shapeCast S16384x64 f shapeCasts_S1048576_S16384x64 j = f (ix1 (flat j)) := by
  rw [← flat_idx]
  rfl

theorem near_apply (q : FVec Ideal S1048576x32 .f32) (j : S16384x64.Idx) : near q j = rowNear q (ix1 (flat j)) := by
  unfold near
  exact cast_flat (rowNear q) j

/-- Moving from one real array to another, at an index. -/
theorem moved_apply (y z : FVec Ideal S16384x64 .f32) (j : S16384x64.Idx) (hy : IsReal (y j)) (hz : IsReal (z j)) :
    addf y (subf z y) j = z j := by
  show y j + (z j - y j) = z j
  exact move hy hz

section Values

variable {x : FVec Ideal S16384x64 .f32} {l : FVec Ideal S32 .f32} {lo st : ℝ} {v : S16384x64.Idx → ℝ}
  (hst : st ≠ 0) (hx : ∀ j, x j = (v j : EReal)) (hl : ∀ b : Fin 32, l (ix1 b) = ((level lo st b.val : ℝ) : EReal))

include hx hl in
theorem sqDist_eq (i : S1048576x32.Idx) :
    sqDist x l i = (((v (rowIdx (rowOf i)) - level lo st (colOf i).val) ^ 2 : ℝ) : EReal) := by
  rw [sqDist_apply, hx, hl, ← EReal.coe_sub, ← EReal.coe_mul, sq]

/-- The index picked for an element, as a column. -/
def col (lo st : ℝ) (a : ℝ) : Fin 32 := ⟨pick lo st a, by have := Grid.pick_le lo st a; omega⟩

include hst hx hl in
theorem rowNear_value (n : Fin 1048576) :
    rowNear (sqDist x l) (ix1 n) = BitVec.ofNat 32 (pick lo st (v (rowIdx n))) := by
  refine rowNear_eq (sqDist x l) (ix2 n (col lo st (v (rowIdx n)))) ?_ fun b => ?_
  · rw [sqDist_eq hx hl]
    exact EReal.coe_ne_top _
  · rw [sqDist_eq hx hl, sqDist_eq hx hl]
    show NotBelow (((v (rowIdx n) - level lo st (pick lo st (v (rowIdx n)))) ^ 2 : ℝ) : EReal) (BitVec.ofNat 32 (pick lo st (v (rowIdx n))))
      ((((v (rowIdx n) - level lo st b.val) ^ 2 : ℝ) : EReal), BitVec.ofNat 32 b.val)
    have hb : b.val ≤ 31 := by omega
    have hp := Grid.pick_le lo st (v (rowIdx n))
    rcases lt_trichotomy b.val (pick lo st (v (rowIdx n))) with h | h | h
    · exact Or.inl (EReal.coe_lt_coe_iff.mpr (Grid.farther hst h))
    · rw [h]
      exact Or.inr ⟨rfl, le_rfl⟩
    · rcases lt_or_eq_of_le (Grid.no_nearer (v := v (rowIdx n)) hst h hb) with e | e
      · exact Or.inl (EReal.coe_lt_coe_iff.mpr e)
      · refine Or.inr ⟨congrArg (fun r : ℝ => (r : EReal)) e.symm, ?_⟩
        show (BitVec.ofNat 32 _).toInt ≤ (BitVec.ofNat 32 _).toInt
        rw [Grid.toInt_small (by omega), Grid.toInt_small (by omega)]
        omega

include hst hx hl in
theorem near_value (j : S16384x64.Idx) : near (sqDist x l) j = BitVec.ofNat 32 (pick lo st (v j)) := by
  have h := rowNear_value hst hx hl (flat j)
  rw [rowIdx_flat] at h
  rw [near_apply, h]

include hst hx hl in
theorem picked_value (j : S16384x64.Idx) : picked l (near (sqDist x l)) j = ((level lo st (pick lo st (v j)) : ℝ) : EReal) := by
  rw [picked_eq l _ j (col lo st (v j)) (near_value hst hx hl j), hl]
  rfl

include hst hx hl in
theorem moved_value (j : S16384x64.Idx) :
    addf (softMean l (softRow (sqDist x l))) (subf (picked l (near (sqDist x l))) (softMean l (softRow (sqDist x l)))) j
      = ((level lo st (pick lo st (v j)) : ℝ) : EReal) := by
  have hlr : ∀ b : S32.Idx, IsReal (l b) := fun b => by
    rw [show b = ix1 (b 0) from ValueIdx.eq_ix1 (n := 32) b]
    exact ⟨_, hl _⟩
  have hm : IsReal (softMean l (softRow (sqDist x l)) j) :=
    softMean_real hlr (softRow_real (sqDist_real (fun k => ⟨_, hx k⟩) hlr)) j
  have hp := picked_value hst hx hl j
  rw [moved_apply _ _ j hm ⟨_, hp⟩, hp]

end Values

end Cert.Proof.ReferenceIdeal

end
-- ==== Proof.KernelValue.lean ====
/-
  The kernel program's memory at its end, read where the claims read it: its arguments as they were, and its three results at an
  element as functions of that element and of the levels' first value and step.
-/
module

public import proofs.«01_k».proof.Proof.RefValue
public import Idealize.ShloMosaic.Lib.StableHlo.RunRead

@[expose] public section

noncomputable section

namespace Cert.Proof.Kernel

open Cert.Kernel Cert.Kernel.Gen

open Idealize.ShloMosaic
open Idealize.ShloMosaic.StableHlo (after)

variable {F : FTy → Type} [FloatOps F]
variable (m : (ℓ : Loc nD τ sig) → Buf (Elt F) ℓ) (d : Dev nD)

theorem V3_arg0 : V3 m d (Proc.devRef .tc main_arg0) = m (d, Proc.devRef .tc main_arg0) := by
  have h : V3 m d (Proc.devRef .tc main_arg0) = V2 m d (Proc.devRef .tc main_arg0) := by
    unfold V3 postOps
    after_reads_simp
  rw [h, V2_of_ne m d _ (by decide)]
  unfold V1 preOps
  after_reads_simp

theorem V3_arg1 : V3 m d (Proc.devRef .tc main_arg1) = m (d, Proc.devRef .tc main_arg1) := by
  have h : V3 m d (Proc.devRef .tc main_arg1) = V2 m d (Proc.devRef .tc main_arg1) := by
    unfold V3 postOps
    after_reads_simp
  rw [h, V2_of_ne m d _ (by decide)]
  unfold V1 preOps
  after_reads_simp

end Cert.Proof.Kernel

namespace Cert.Proof.KernelIdeal

open Cert.KernelIdeal Cert.KernelIdeal.Gen
open Cert.Proof.Quant

open Idealize.ShloMosaic
open Idealize.ShloMosaic.ValueIdx (ix1)
open Idealize.ShloMosaic.StableHlo (after)

variable {F : FTy → Type} [FloatOps F]

/-! ## Three constant runs side by side -/

section Three

variable {α : Type} (a b c : S16.Idx → α) (n : ℕ)

theorem three_fst (r : α) (ha : ∀ i, a i = r) :
    concatenate S48 0 [⟨S16, a⟩, ⟨S16, b⟩, ⟨S16, c⟩] concatenates_S16_S16_S16_S48_d0 (ix1 (⟨0 + n % 16, by omega⟩ : Fin 48)) = r := by
  rw [concatenate_apply_piece (t := S48) 0 [⟨S16, a⟩, ⟨S16, b⟩, ⟨S16, c⟩] concatenates_S16_S16_S16_S48_d0 _ 0 (by simp) S16 a rfl rfl 0
    (by rfl) (ix1 (⟨n % 16, by omega⟩ : Fin 16)) (fun e he => absurd (Subsingleton.elim _ _) he) (by rfl)]
  exact ha _

theorem three_snd (r : α) (hb : ∀ i, b i = r) :
    concatenate S48 0 [⟨S16, a⟩, ⟨S16, b⟩, ⟨S16, c⟩] concatenates_S16_S16_S16_S48_d0 (ix1 (⟨16 + n % 16, by omega⟩ : Fin 48)) = r := by
  rw [concatenate_apply_piece (t := S48) 0 [⟨S16, a⟩, ⟨S16, b⟩, ⟨S16, c⟩] concatenates_S16_S16_S16_S48_d0 _ 1 (by simp) S16 b rfl rfl 16
    (by rfl) (ix1 (⟨n % 16, by omega⟩ : Fin 16)) (fun e he => absurd (Subsingleton.elim _ _) he) (by rfl)]
  exact hb _

theorem three_thd (r : α) (hc : ∀ i, c i = r) :
    concatenate S48 0 [⟨S16, a⟩, ⟨S16, b⟩, ⟨S16, c⟩] concatenates_S16_S16_S16_S48_d0 (ix1 (⟨32 + n % 16, by omega⟩ : Fin 48)) = r := by
  rw [concatenate_apply_piece (t := S48) 0 [⟨S16, a⟩, ⟨S16, b⟩, ⟨S16, c⟩] concatenates_S16_S16_S16_S48_d0 _ 2 (by simp) S16 c rfl rfl 32
    (by rfl) (ix1 (⟨n % 16, by omega⟩ : Fin 16)) (fun e he => absurd (Subsingleton.elim _ _) he) (by rfl)]
  exact hc _

end Three

/-! ## The parameters the call is given -/

/-- The grid's first level, and its second less its first, as the host computes them. -/
def first (l : FVec F S32 .f32) : FVec F S_ .f32 := shapeCast S_ (extractStridedSlice S1 ![0] l slices_S32_S1_0) shapeCasts_S1_S_
def second (l : FVec F S32 .f32) : FVec F S_ .f32 := shapeCast S_ (extractStridedSlice S1 ![1] l slices_S32_S1_1) shapeCasts_S1_S_
def step (l : FVec F S32 .f32) : FVec F S_ .f32 := subf (second l) (first l)

theorem slice_apply (l : FVec F S32 .f32) (o : Fin 1 → ℕ) (h : S32.Slices o S1) (k : Fin 32) (hk : o 0 = k.val) (i : S1.Idx) :
    extractStridedSlice S1 o l h i = l (ix1 k) := by
  show l _ = l _
  refine congrArg l (funext fun e => Fin.ext ?_)
  match e with
  | ⟨0, _⟩ =>
    have hi : (i 0).val = 0 := Nat.lt_one_iff.mp (i 0).isLt
    show o 0 + (i 0).val = k.val
    rw [hi, hk, Nat.add_zero]

theorem first_apply (l : FVec F S32 .f32) (i : S_.Idx) : first l i = l (ix1 (0 : Fin 32)) := by
  unfold first shapeCast
  exact slice_apply l ![0] slices_S32_S1_0 0 rfl _

theorem second_apply (l : FVec F S32 .f32) (i : S_.Idx) : second l i = l (ix1 (1 : Fin 32)) := by
  unfold second shapeCast
  exact slice_apply l ![1] slices_S32_S1_1 1 rfl _

/-- The forty-eight parameters. -/
def params (l : FVec F S32 .f32) : FVec F S48 .f32 :=
  concatenate S48 0 [⟨S16, broadcastInDim S16 ![] bcast_S_S16 (first l)⟩, ⟨S16, broadcastInDim S16 ![] bcast_S_S16 (step l)⟩,
    ⟨S16, broadcastInDim S16 ![] bcast_S_S16 (Host.divf (constant S_ .f32 0x3F800000#32) (step l))⟩] concatenates_S16_S16_S16_S48_d0

theorem step_apply (l : FVec F S32 .f32) (i : S_.Idx) : step l i = FloatOps.subf (l (ix1 (1 : Fin 32))) (l (ix1 (0 : Fin 32))) := by
  have h : step l i = FloatOps.subf (second l i) (first l i) := rfl
  rw [h, second_apply, first_apply]

theorem par_lo (l : FVec F S32 .f32) (n : ℕ) : par (params l) 0 n (by omega) = l (ix1 (0 : Fin 32)) := by
  unfold par params
  exact three_fst _ _ _ n _ fun i => first_apply l _

theorem par_st (l : FVec F S32 .f32) (n : ℕ) : par (params l) 16 n (by omega) = FloatOps.subf (l (ix1 (1 : Fin 32))) (l (ix1 (0 : Fin 32))) := by
  unfold par params
  exact three_snd _ _ _ n _ fun i => step_apply l _

theorem par_inv (l : FVec F S32 .f32) (n : ℕ) :
    par (params l) 32 n (by omega) = FloatOps.hostDivf (FloatOps.ofBits .f32 0x3F800000#32) (FloatOps.subf (l (ix1 (1 : Fin 32))) (l (ix1 (0 : Fin 32)))) := by
  unfold par params
  exact three_thd _ _ _ n _ fun i => congrArg (FloatOps.hostDivf (FloatOps.ofBits .f32 0x3F800000#32)) (step_apply l _)

/-! ## The buffers at the end -/

variable (m : (ℓ : Loc nD τ sig) → Buf (Elt F) ℓ) (d : Dev nD)

/-- The two arguments. -/
def xArg : FVec F S16384x64 .f32 := m (d, Proc.devRef .tc main_arg0)
def lArg : FVec F S32 .f32 := m (d, Proc.devRef .tc main_arg1)

theorem pIn_eq : pIn m d = params (lArg m d) := by
  unfold pIn V1 preOps
  after_reads_simp
  rfl

theorem xIn_eq : xIn m d = (shapeCast S1048576 (xArg m d) shapeCasts_S16384x64_S1048576 : FVec F S1048576 .f32) := by
  unfold xIn V1 preOps
  after_reads_simp
  rfl

theorem V3_arg0 : V3 m d (Proc.devRef .tc main_arg0) = m (d, Proc.devRef .tc main_arg0) := by
  have h : V3 m d (Proc.devRef .tc main_arg0) = V2 m d (Proc.devRef .tc main_arg0) := by
    unfold V3 postOps
    after_reads_simp
  rw [h, V2_of_ne m d _ (by decide)]
  unfold V1 preOps
  after_reads_simp

theorem V3_arg1 : V3 m d (Proc.devRef .tc main_arg1) = m (d, Proc.devRef .tc main_arg1) := by
  have h : V3 m d (Proc.devRef .tc main_arg1) = V2 m d (Proc.devRef .tc main_arg1) := by
    unfold V3 postOps
    after_reads_simp
  rw [h, V2_of_ne m d _ (by decide)]
  unfold V1 preOps
  after_reads_simp

/-- An array of values per element, computed from the flattened input and given the input's shape again. -/
def back {α : Type} (f : S1048576.Idx → α) : S16384x64.Idx → α := shapeCast S16384x64 f shapeCasts_S1048576_S16384x64

theorem V3_v14 : V3 m d (Proc.devRef .tc main_v14) = (back (featAll (pIn m d) (xIn m d)) : FVec F S16384x64 .f32) := by
  have h : V3 m d (Proc.devRef .tc main_v14) = (back (V2 m d f' : FVec F S1048576 .f32) : FVec F S16384x64 .f32) := by
    unfold V3 postOps
    after_reads_simp
    rfl
  rw [h, V2_f]
  rfl

theorem V3_v15 : V3 m d (Proc.devRef .tc main_v15) = (back (featAll (pIn m d) (xIn m d)) : FVec F S16384x64 .f32) := by
  have h : V3 m d (Proc.devRef .tc main_v15) = (back (V2 m d h' : FVec F S1048576 .f32) : FVec F S16384x64 .f32) := by
    unfold V3 postOps
    after_reads_simp
    rfl
  rw [h, V2_h]
  rfl

theorem V3_v16 : V3 m d (Proc.devRef .tc main_v16) = (back (symAll (pIn m d) (xIn m d)) : S16384x64.Idx → BitVec 32) := by
  have h : V3 m d (Proc.devRef .tc main_v16) = (back (V2 m d y' : S1048576.Idx → BitVec 32) : S16384x64.Idx → BitVec 32) := by
    unfold V3 postOps
    after_reads_simp
    rfl
  rw [h, V2_y]
  rfl

theorem back_forth {α : Type} (x : S16384x64.Idx → α) (j : S16384x64.Idx) :
    shapeCast S1048576 x shapeCasts_S16384x64_S1048576 (Shape.reshapeEquiv shapeCasts_S1048576_S16384x64 j) = x j := by
  unfold shapeCast
  refine congrArg x ?_
  exact (Shape.reshapeEquiv_reshapeEquiv _ _ _).trans (Shape.reshapeEquiv_self _ _)

theorem back_feat (p : FVec F S48 .f32) (x : FVec F S16384x64 .f32) (j : S16384x64.Idx) :
    ∃ n, back (featAll p (shapeCast S1048576 x shapeCasts_S16384x64_S1048576)) j = featAt p n (x j) :=
  ⟨_, congrArg (featAt p _) (back_forth x j)⟩

theorem back_sym (p : FVec F S48 .f32) (x : FVec F S16384x64 .f32) (j : S16384x64.Idx) :
    ∃ n, back (symAll p (shapeCast S1048576 x shapeCasts_S16384x64_S1048576)) j = symAt p n (x j) :=
  ⟨_, congrArg (symAt p _) (back_forth x j)⟩

end Cert.Proof.KernelIdeal

end
-- ==== Proof.Precond.lean ====
/-
  What the precondition says of its two arrays over the extended reals: every input is a real number, and the levels are a grid of
  equal real steps, the step not zero.
-/
module

public import proofs.«01_k».proof.Proof.KernelValue
public import proofs.«01_k».proof.Pre_uniform_grid
public import Idealize.ShloMosaic.Lib.ReduceAll

@[expose] public section

noncomputable section

namespace Cert.Proof.Precond

open Idealize.ShloMosaic
open Idealize.ShloMosaic.ValueIdx (ix1)
open Cert.Proof.ReferenceIdeal (IsReal isReal_of_ne)
open Cert.Proof.Grid (level)

theorem andi_one {s : Shape} (a b : IVec s 1) (i : s.Idx) (h : andi a b i = 1#1) : a i = 1#1 ∧ b i = 1#1 := by
  have h' : a i &&& b i = 1#1 := h
  generalize a i = p at h' ⊢
  generalize b i = q at h' ⊢
  revert p q
  decide

theorem ofBits_inf : Ideal.ofBits .f32 0x7F800000#32 = ⊤ := by
  simp [Ideal.ofBits, Ideal.ieee]

theorem ofBool_one {p : Prop} [Decidable p] (h : BitVec.ofBool (decide p) = 1#1) : p := by
  by_contra hp
  rw [decide_eq_false hp] at h
  exact absurd h (by decide)

/-- An extended real of finite absolute value is real. -/
theorem isReal_of_abs {s : Shape} (x : FVec Ideal s .f32) (b : FVec Ideal s .f32) (i : s.Idx)
    (hb : b i = Ideal.ofBits .f32 0x7F800000#32) (h : cmpf .olt (Host.absf x) b i = 1#1) : IsReal (x i) := by
  have h' : max (x i) (-(x i)) < b i := ofBool_one h
  rw [hb, ofBits_inf] at h'
  refine isReal_of_ne (fun e => ?_) fun e => ?_
  · rw [e] at h'
    exact absurd h' (by simp)
  · rw [e] at h'
    exact absurd h' (by simp)

theorem ne_of_une {s : Shape} (a b : FVec Ideal s .f32) (i : s.Idx) (h : cmpf .une a b i = 1#1) : a i ≠ b i := ofBool_one h
theorem eq_of_oeq {s : Shape} (a b : FVec Ideal s .f32) (i : s.Idx) (h : cmpf .oeq a b i = 1#1) : a i = b i := ofBool_one h

section Unpack

open Cert.Pre_uniform_grid

variable [Cert.Pre_uniform_grid.Facts]

instance : Subsingleton S_.Idx := ⟨fun a b => funext fun k => k.elim0⟩

/-- What the four conditions say, element by element. -/
theorem unpack {x : FVec Ideal S16384x64 .f32} {l : FVec Ideal S32 .f32} (h : fn (F := Ideal) x l = fun _ => 1#1) :
    (∀ j, IsReal (x j)) ∧ (∀ b, IsReal (l b)) ∧ l (ix1 (1 : Fin 32)) ≠ l (ix1 (0 : Fin 32))
      ∧ ∀ b : Fin 32, l (ix1 b) = l (ix1 (0 : Fin 32)) + ((b.val : ℝ) : EReal) * (l (ix1 (1 : Fin 32)) - l (ix1 (0 : Fin 32))) := by
  have e := congrFun h (fun k => k.elim0)
  unfold fn fn_part1 at e
  beta_reduce at e
  obtain ⟨e1, e4⟩ := andi_one _ _ _ e
  obtain ⟨e1, e3⟩ := andi_one _ _ _ e1
  obtain ⟨e1, e2⟩ := andi_one _ _ _ e1
  have h1 := Host.reduce_andi_all _ _ _ _ _ e1
  have h2 := Host.reduce_andi_all _ _ _ _ _ e2
  have h4 := Host.reduce_andi_all _ _ _ _ _ e4
  refine ⟨fun j => isReal_of_abs x _ j rfl (h1 j), fun b => isReal_of_abs l _ b rfl (h2 b), ?_, fun b => ?_⟩
  · have h3 := ne_of_une _ _ _ e3
    unfold shapeCast at h3
    rw [KernelIdeal.slice_apply l _ _ 1 rfl, KernelIdeal.slice_apply l _ _ 0 rfl] at h3
    exact h3
  · have h5 := eq_of_oeq _ _ _ (h4 (ix1 b))
    have e5 : ∀ (u w : FVec Ideal S_ .f32) (k : IVec S32 32) (hb hb' : S_.BroadcastsInDim S32 (![] : Fin 0 → Fin S32.rank)),
        addf (broadcastInDim S32 ![] hb u) (mulf (sitofp .f32 k) (broadcastInDim S32 ![] hb' w)) (ix1 b)
          = u (fun i => i.elim0) + (((k (ix1 b)).toInt : ℝ) : EReal) * w (fun i => i.elim0) := fun u w k hb hb' => by
      have hu : broadcastInDim S32 ![] hb u (ix1 b) = u (fun i => i.elim0) := congrArg u (Subsingleton.elim _ _)
      have hw : broadcastInDim S32 ![] hb' w (ix1 b) = w (fun i => i.elim0) := congrArg w (Subsingleton.elim _ _)
      rw [← hu, ← hw]
      rfl
    rw [e5] at h5
    have hk : (iotaInDim S32 32 0 (ix1 b)).toInt = (b.val : ℤ) := Grid.toInt_small (n := b.val) (by omega)
    rw [hk] at h5
    have e6 : ∀ u w : FVec Ideal S_ .f32, subf u w (fun i => i.elim0) = u (fun i => i.elim0) - w (fun i => i.elim0) := fun _ _ => rfl
    rw [e6] at h5
    unfold shapeCast at h5
    rw [KernelIdeal.slice_apply l _ _ 0 rfl, KernelIdeal.slice_apply l _ _ 1 rfl] at h5
    exact_mod_cast h5

/-- The same with the real numbers named. -/
theorem grid {x : FVec Ideal S16384x64 .f32} {l : FVec Ideal S32 .f32} (h : fn (F := Ideal) x l = fun _ => 1#1) :
    ∃ (v : S16384x64.Idx → ℝ) (lo st : ℝ), st ≠ 0 ∧ (∀ j, x j = (v j : EReal))
      ∧ (∀ b : Fin 32, l (ix1 b) = ((level lo st b.val : ℝ) : EReal)) ∧ l (ix1 (1 : Fin 32)) - l (ix1 (0 : Fin 32)) = ((st : ℝ) : EReal) := by
  obtain ⟨hx, hl, hne, hg⟩ := unpack h
  choose v hv using hx
  obtain ⟨lo, h0⟩ := hl (ix1 (0 : Fin 32))
  obtain ⟨hi, h1⟩ := hl (ix1 (1 : Fin 32))
  refine ⟨v, lo, hi - lo, fun e => hne ?_, hv, fun b => ?_, ?_⟩
  · rw [h0, h1, sub_eq_zero.mp e]
  · rw [hg b, h0, h1, ← EReal.coe_sub, ← EReal.coe_mul, ← EReal.coe_add]
    rfl
  · rw [h0, h1, ← EReal.coe_sub]

end Unpack

end Cert.Proof.Precond

end
-- ==== Proof.Agree.lean ====
/-
  The kernel's three results and the reference's are the same arrays, wherever the precondition holds: at each element the index
  `pick` and that index's level.
-/
module

public import proofs.«01_k».proof.Proof.Precond

@[expose] public section

noncomputable section

namespace Cert.Proof.Agree

open Idealize.ShloMosaic
open Idealize.ShloMosaic.ValueIdx (ix1)
open Cert.KernelIdeal (S1048576 S16384x64 S32)
open Cert.Proof.KernelIdeal (back params back_feat back_sym par_lo par_st par_inv featAt symAt featAll symAll)
open Cert.Proof.ReferenceIdeal (sqDist near picked softMean softRow)
open Cert.Proof.Grid (level pick)

/-- The levels the kernel returns, as a function of its arguments, -/
def kernelFeat (x : FVec Ideal S16384x64 .f32) (l : FVec Ideal S32 .f32) : FVec Ideal S16384x64 .f32 :=
  back (featAll (params l) (shapeCast S1048576 x Cert.KernelIdeal.Gen.shapeCasts_S16384x64_S1048576))
/-- and the indices. -/
def kernelSym (x : FVec Ideal S16384x64 .f32) (l : FVec Ideal S32 .f32) : S16384x64.Idx → BitVec 32 :=
  back (symAll (params l) (shapeCast S1048576 x Cert.KernelIdeal.Gen.shapeCasts_S16384x64_S1048576))

section Values

variable {x : FVec Ideal S16384x64 .f32} {l : FVec Ideal S32 .f32} {lo st : ℝ} {v : S16384x64.Idx → ℝ}
  (hst : st ≠ 0) (hx : ∀ j, x j = (v j : EReal)) (hl : ∀ b : Fin 32, l (ix1 b) = ((level lo st b.val : ℝ) : EReal))
  (hd : l (ix1 (1 : Fin 32)) - l (ix1 (0 : Fin 32)) = ((st : ℝ) : EReal))

include hl in
theorem lo_value (n : ℕ) : KernelIdeal.par (params l) 0 n (by omega) = ((lo : ℝ) : EReal) := by
  rw [par_lo, hl]
  show ((lo + ((0 : ℕ) : ℝ) * st : ℝ) : EReal) = lo
  rw [Nat.cast_zero, zero_mul, add_zero]

include hd in
theorem st_value (n : ℕ) : KernelIdeal.par (params l) 16 n (by omega) = ((st : ℝ) : EReal) := by
  rw [par_st]
  exact hd

include hst hd in
theorem inv_value (n : ℕ) : KernelIdeal.par (params l) 32 n (by omega) = ((1 / st : ℝ) : EReal) := by
  rw [par_inv]
  show Ideal.div (Ideal.ofBits .f32 0x3F800000#32) (l (ix1 (1 : Fin 32)) - l (ix1 (0 : Fin 32))) = _
  rw [hd, Ideal.ofBits_one_f32, Grid.div_one hst]

include hst hx hl hd in
theorem feat_value (j : S16384x64.Idx) : kernelFeat x l j = ((level lo st (pick lo st (v j)) : ℝ) : EReal) := by
  obtain ⟨n, e⟩ := back_feat (params l) x j
  refine Eq.trans (b := featAt (params l) n (x j)) e ?_
  unfold featAt
  rw [lo_value hl, st_value hd, inv_value hst hd, hx, Grid.featOf_eq]

include hst hx hl hd in
theorem sym_value (j : S16384x64.Idx) : kernelSym x l j = BitVec.ofNat 32 (pick lo st (v j)) := by
  obtain ⟨n, e⟩ := back_sym (params l) x j
  refine Eq.trans (b := symAt (params l) n (x j)) e ?_
  unfold symAt
  rw [lo_value hl, inv_value hst hd, hx, Grid.symOf_eq]

end Values

variable [Cert.Pre_uniform_grid.Facts] {x : FVec Ideal S16384x64 .f32} {l : FVec Ideal S32 .f32}
  (h : Cert.Pre_uniform_grid.fn (F := Ideal) x l = fun _ => 1#1)

include h

theorem sym_agrees : near (sqDist x l) = kernelSym x l := by
  obtain ⟨v, lo, st, hst, hx, hl, hd⟩ := Precond.grid h
  exact funext fun j => (ReferenceIdeal.near_value hst hx hl j).trans (sym_value hst hx hl hd j).symm

theorem hard_agrees : picked l (near (sqDist x l)) = kernelFeat x l := by
  obtain ⟨v, lo, st, hst, hx, hl, hd⟩ := Precond.grid h
  exact funext fun j => (ReferenceIdeal.picked_value hst hx hl j).trans (feat_value hst hx hl hd j).symm

theorem soft_agrees :
    addf (softMean l (softRow (sqDist x l))) (subf (picked l (near (sqDist x l))) (softMean l (softRow (sqDist x l)))) = kernelFeat x l := by
  obtain ⟨v, lo, st, hst, hx, hl, hd⟩ := Precond.grid h
  exact funext fun j => (ReferenceIdeal.moved_value hst hx hl j).trans (feat_value hst hx hl hd j).symm

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_uniform_grid
public import proofs.«01_k».proof.Proof.Agree
public import Idealize.ShloMosaic.Adequacy
public import Idealize.ShloMosaic.Init

@[expose] public section

noncomputable section

namespace Cert.Proof

open Idealize.ShloMosaic Idealize.SL.Sem

/-! ## The frames -/

theorem frame_kernel : Cert.quiescent_Kernel (hKernel := Cert.Kernel.Gen.facts) := fun m g _ =>
  (θ_run _ _ _).mono (fun r h => ⟨fun c =>
    ⟨(h.1 c _ (Kernel.mem_uc Cert.Kernel.main_arg0 rfl)).trans (Kernel.V3_arg0 m c),
      (h.1 c _ (Kernel.mem_uc Cert.Kernel.main_arg1 rfl)).trans (Kernel.V3_arg1 m c)⟩, h.2⟩) (Kernel.run_main m g)

theorem frame_ideal : Cert.quiescent_KernelIdeal (hKernelIdeal := Cert.KernelIdeal.Gen.facts) := fun m g _ =>
  (θ_run _ _ _).mono (fun r h => ⟨fun c =>
    ⟨(h.1 c _ (KernelIdeal.mem_uc Cert.KernelIdeal.main_arg0 rfl)).trans (KernelIdeal.V3_arg0 m c),
      (h.1 c _ (KernelIdeal.mem_uc Cert.KernelIdeal.main_arg1 rfl)).trans (KernelIdeal.V3_arg1 m c)⟩, h.2⟩) (KernelIdeal.run_main m g)

theorem frame_reference : Cert.quiescent_ReferenceIdeal (hReferenceIdeal := Cert.ReferenceIdeal.Gen.facts) := fun m g _ =>
  (θ_run _ _ _).mono (fun r h => ⟨fun c =>
    ⟨(h c _).trans (ReferenceIdeal.ref_arg0 _), (h c _).trans (ReferenceIdeal.ref_arg1 _)⟩,
    Idealize.ShloMosaic.sem_eq_zero_of_no_sems (by decide) r.2⟩) (ReferenceIdeal.run m g)

/-! ## The value claim -/

theorem agree [Cert.Pre_uniform_grid.Facts] :
    Cert.algebraic_KernelIdeal_ReferenceIdeal_pre_uniform_grid (hKernelIdeal := Cert.KernelIdeal.Gen.facts)
      (hReferenceIdeal := Cert.ReferenceIdeal.Gen.facts) := fun m g m' g' hpre hargs => by
  let x : (c : Dev Cert.KernelIdeal.nD) → FVec Ideal Cert.KernelIdeal.S16384x64 .f32 := fun c => KernelIdeal.xArg m c
  let l : (c : Dev Cert.KernelIdeal.nD) → FVec Ideal Cert.KernelIdeal.S32 .f32 := fun c => KernelIdeal.lArg m c
  refine ⟨fun c => Agree.kernelFeat (x c) (l c), fun c => Agree.kernelFeat (x c) (l c), fun c => Agree.kernelSym (x c) (l c),
    (θ_run _ _ _).mono (fun r h c => ⟨?_, ?_, ?_, ?_, ?_⟩) (KernelIdeal.run_main m g),
    (θ_run _ _ _).mono (fun r h c => ⟨?_, ?_, ?_, ?_, ?_⟩) (ReferenceIdeal.run m' g')⟩
  · refine (h.1 c _ (KernelIdeal.mem_uc Cert.KernelIdeal.main_v14 rfl)).trans ((KernelIdeal.V3_v14 m c).trans ?_)
    rw [KernelIdeal.pIn_eq, KernelIdeal.xIn_eq]
    rfl
  · refine (h.1 c _ (KernelIdeal.mem_uc Cert.KernelIdeal.main_v15 rfl)).trans ((KernelIdeal.V3_v15 m c).trans ?_)
    rw [KernelIdeal.pIn_eq, KernelIdeal.xIn_eq]
    rfl
  · refine (h.1 c _ (KernelIdeal.mem_uc Cert.KernelIdeal.main_v16 rfl)).trans ((KernelIdeal.V3_v16 m c).trans ?_)
    rw [KernelIdeal.pIn_eq, KernelIdeal.xIn_eq]
    rfl
  · exact (h.1 c _ (KernelIdeal.mem_uc Cert.KernelIdeal.main_arg0 rfl)).trans (KernelIdeal.V3_arg0 m c)
  · exact (h.1 c _ (KernelIdeal.mem_uc Cert.KernelIdeal.main_arg1 rfl)).trans (KernelIdeal.V3_arg1 m c)
  · refine (h c _).trans ((ReferenceIdeal.ref_v34 _).trans ?_)
    have hx : m' (c, Proc.devRef .tc Cert.ReferenceIdeal.main_arg0) = x c := (hargs c).1
    have hl : m' (c, Proc.devRef .tc Cert.ReferenceIdeal.main_arg1) = l c := (hargs c).2
    rw [hx, hl]
    exact Agree.soft_agrees (hpre c)
  · refine (h c _).trans ((ReferenceIdeal.ref_v32 _).trans ?_)
    have hx : m' (c, Proc.devRef .tc Cert.ReferenceIdeal.main_arg0) = x c := (hargs c).1
    have hl : m' (c, Proc.devRef .tc Cert.ReferenceIdeal.main_arg1) = l c := (hargs c).2
    rw [hx, hl]
    exact Agree.hard_agrees (hpre c)
  · refine (h c _).trans ((ReferenceIdeal.ref_v25 _).trans ?_)
    have hx : m' (c, Proc.devRef .tc Cert.ReferenceIdeal.main_arg0) = x c := (hargs c).1
    have hl : m' (c, Proc.devRef .tc Cert.ReferenceIdeal.main_arg1) = l c := (hargs c).2
    rw [hx, hl]
    exact Agree.sym_agrees (hpre c)
  · exact (h c _).trans (ReferenceIdeal.ref_arg0 _)
  · exact (h c _).trans (ReferenceIdeal.ref_arg1 _)

theorem claim : Cert.Claim :=
  ⟨Cert.Kernel.Gen.facts, Cert.KernelIdeal.Gen.facts, Cert.ReferenceIdeal.Gen.facts, Cert.Pre_uniform_grid.Gen.facts,
    frame_kernel, frame_ideal, fun m g _ => frame_ideal m g trivial, frame_reference, fun m g _ => frame_reference m g trivial, trivial,
    @agree Cert.Pre_uniform_grid.Gen.facts⟩

end Cert.Proof

end
